-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x128 : Shape := ⟨3, ![2, 2048, 128]⟩
abbrev S128x5000 : Shape := ⟨2, ![128, 5000]⟩
abbrev S3x128x5000 : Shape := ⟨3, ![3, 128, 5000]⟩
abbrev S40000 : Shape := ⟨1, ![40000]⟩
abbrev S2x2048 : Shape := ⟨2, ![2, 2048]⟩
abbrev S4096x128 : Shape := ⟨2, ![4096, 128]⟩
abbrev S1x40000 : Shape := ⟨2, ![1, 40000]⟩
abbrev S4096x1 : Shape := ⟨2, ![4096, 1]⟩
abbrev S4096x40000 : Shape := ⟨2, ![4096, 40000]⟩
abbrev S256x128 : Shape := ⟨2, ![256, 128]⟩
abbrev S1x5120 : Shape := ⟨2, ![1, 5120]⟩
abbrev S256x1 : Shape := ⟨2, ![256, 1]⟩
abbrev S256x5120 : Shape := ⟨2, ![256, 5120]⟩
abbrev S128x40960 : Shape := ⟨2, ![128, 40960]⟩
abbrev S32x5000 : Shape := ⟨2, ![32, 5000]⟩
abbrev S1x128x5000 : Shape := ⟨3, ![1, 128, 5000]⟩
abbrev S128x5120 : Shape := ⟨2, ![128, 5120]⟩
abbrev S2x2048x40000 : Shape := ⟨3, ![2, 2048, 40000]⟩

abbrev nBuf : Space → Nat
  | .hbm => 12
  | .vmem => 13
  | .smem => 0
  | _ => 0

abbrev bufTy : (tb : Table) → Fin (tcTables nBuf tb) → BufTy
  | .hbm, ⟨0, _⟩ => ⟨S2x2048x128, .bf16⟩
  | .hbm, ⟨1, _⟩ => ⟨S128x5000, .i8⟩
  | .hbm, ⟨2, _⟩ => ⟨S3x128x5000, .i8⟩
  | .hbm, ⟨3, _⟩ => ⟨S40000, .f32⟩
  | .hbm, ⟨4, _⟩ => ⟨S40000, .f32⟩
  | .hbm, ⟨5, _⟩ => ⟨S2x2048, .f32⟩
  | .hbm, ⟨6, _⟩ => ⟨S4096x128, .bf16⟩
  | .hbm, ⟨7, _⟩ => ⟨S1x40000, .f32⟩
  | .hbm, ⟨8, _⟩ => ⟨S1x40000, .f32⟩
  | .hbm, ⟨9, _⟩ => ⟨S4096x1, .f32⟩
  | .hbm, ⟨10, _⟩ => ⟨S4096x40000, .f32⟩
  | .hbm, ⟨11, _⟩ => ⟨S2x2048x40000, .f32⟩
  | .local _ .vmem, ⟨0, _⟩ => ⟨S256x128, .bf16⟩
  | .local _ .vmem, ⟨1, _⟩ => ⟨S256x128, .bf16⟩
  | .local _ .vmem, ⟨2, _⟩ => ⟨S128x5000, .i8⟩
  | .local _ .vmem, ⟨3, _⟩ => ⟨S3x128x5000, .i8⟩
  | .local _ .vmem, ⟨4, _⟩ => ⟨S1x5120, .f32⟩
  | .local _ .vmem, ⟨5, _⟩ => ⟨S1x5120, .f32⟩
  | .local _ .vmem, ⟨6, _⟩ => ⟨S1x5120, .f32⟩
  | .local _ .vmem, ⟨7, _⟩ => ⟨S1x5120, .f32⟩
  | .local _ .vmem, ⟨8, _⟩ => ⟨S256x1, .f32⟩
  | .local _ .vmem, ⟨9, _⟩ => ⟨S256x1, .f32⟩
  | .local _ .vmem, ⟨10, _⟩ => ⟨S256x5120, .f32⟩
  | .local _ .vmem, ⟨11, _⟩ => ⟨S256x5120, .f32⟩
  | .local _ .vmem, ⟨12, _⟩ => ⟨S128x40960, .bf16⟩
  | _, _ => ⟨S2x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg0 : BitVec 32 := BitVec.ofNat 32 (i 0).val
  let c5120_i32 : BitVec 32 := 5120#32
  let v5 : BitVec 32 := Scalar.muli arg0 c5120_i32
  v5
def k0_off1 (i : grid0.Coords) : Fin 2 → Nat :=
  let c0_3 : Index := 0#32
  let arg0 : BitVec 32 := BitVec.ofNat 32 (i 0).val
  let c5120_i32 : BitVec 32 := 5120#32
  let v5 : BitVec 32 := Scalar.muli arg0 c5120_i32
  let v6 : BitVec 32 := v5
  let v9 : Index := Scalar.indexCast v6
  ![0, v9.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x5000 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x128x5000 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x2048x128 : Shape := ⟨3, ![2, 2048, 128]⟩
abbrev S128x5000 : Shape := ⟨2, ![128, 5000]⟩
abbrev S3x128x5000 : Shape := ⟨3, ![3, 128, 5000]⟩
abbrev S40000 : Shape := ⟨1, ![40000]⟩
abbrev S2x2048 : Shape := ⟨2, ![2, 2048]⟩
abbrev S8 : Shape := ⟨1, ![8]⟩
abbrev S128x1x5000 : Shape := ⟨3, ![128, 1, 5000]⟩
abbrev S1x8x1 : Shape := ⟨3, ![1, 8, 1]⟩
abbrev S128x8x5000 : Shape := ⟨3, ![128, 8, 5000]⟩
abbrev S_ : Shape := ⟨0, ![]⟩
abbrev S3x128x1x5000 : Shape := ⟨4, ![3, 128, 1, 5000]⟩
abbrev S1x1x8x1 : Shape := ⟨4, ![1, 1, 8, 1]⟩
abbrev S3x128x8x5000 : Shape := ⟨4, ![3, 128, 8, 5000]⟩
abbrev S3 : Shape := ⟨1, ![3]⟩
abbrev S3x1x1x1 : Shape := ⟨4, ![3, 1, 1, 1]⟩
abbrev S128x40000 : Shape := ⟨2, ![128, 40000]⟩
abbrev S2x2048x40000 : Shape := ⟨3, ![2, 2048, 40000]⟩
abbrev S2x2048x1 : Shape := ⟨3, ![2, 2048, 1]⟩
abbrev S1x1x40000 : Shape := ⟨3, ![1, 1, 40000]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x128, .bf16⟩
  | .hbm, ⟨1, _⟩ => ⟨S128x5000, .i8⟩
  | .hbm, ⟨2, _⟩ => ⟨S3x128x5000, .i8⟩
  | .hbm, ⟨3, _⟩ => ⟨S40000, .f32⟩
  | .hbm, ⟨4, _⟩ => ⟨S40000, .f32⟩
  | .hbm, ⟨5, _⟩ => ⟨S2x2048, .f32⟩
  | .hbm, ⟨6, _⟩ => ⟨S8, .i32⟩
  | .hbm, ⟨7, _⟩ => ⟨S128x5000, .i32⟩
  | .hbm, ⟨8, _⟩ => ⟨S128x1x5000, .i32⟩
  | .hbm, ⟨9, _⟩ => ⟨S1x8x1, .i32⟩
  | .hbm, ⟨10, _⟩ => ⟨S128x8x5000, .i32⟩
  | .hbm, ⟨11, _⟩ => ⟨S128x8x5000, .i32⟩
  | .hbm, ⟨12, _⟩ => ⟨S128x8x5000, .i32⟩
  | .hbm, ⟨13, _⟩ => ⟨S_, .i32⟩
  | .hbm, ⟨14, _⟩ => ⟨S128x8x5000, .i32⟩
  | .hbm, ⟨15, _⟩ => ⟨S128x8x5000, .i32⟩
  | .hbm, ⟨16, _⟩ => ⟨S3x128x5000, .i32⟩
  | .hbm, ⟨17, _⟩ => ⟨S3x128x1x5000, .i32⟩
  | .hbm, ⟨18, _⟩ => ⟨S1x1x8x1, .i32⟩
  | .hbm, ⟨19, _⟩ => ⟨S3x128x8x5000, .i32⟩
  | .hbm, ⟨20, _⟩ => ⟨S3x128x8x5000, .i32⟩
  | .hbm, ⟨21, _⟩ => ⟨S3x128x8x5000, .i32⟩
  | .hbm, ⟨22, _⟩ => ⟨S_, .i32⟩
  | .hbm, ⟨23, _⟩ => ⟨S3x128x8x5000, .i32⟩
  | .hbm, ⟨24, _⟩ => ⟨S3x128x8x5000, .i32⟩
  | .hbm, ⟨25, _⟩ => ⟨S3, .i32⟩
  | .hbm, ⟨26, _⟩ => ⟨S3x1x1x1, .i32⟩
  | .hbm, ⟨27, _⟩ => ⟨S3x128x8x5000, .i32⟩
  | .hbm, ⟨28, _⟩ => ⟨S3x128x8x5000, .i32⟩
  | .hbm, ⟨29, _⟩ => ⟨S_, .i32⟩
  | .hbm, ⟨30, _⟩ => ⟨S128x8x5000, .i32⟩
  | .hbm, ⟨31, _⟩ => ⟨S_, .i32⟩
  | .hbm, ⟨32, _⟩ => ⟨S128x8x5000, .i32⟩
  | .hbm, ⟨33, _⟩ => ⟨S128x8x5000, .i32⟩
  | .hbm, ⟨34, _⟩ => ⟨S128x8x5000, .i32⟩
  | .hbm, ⟨35, _⟩ => ⟨S_, .i32⟩
  | .hbm, ⟨36, _⟩ => ⟨S128x8x5000, .i32⟩
  | .hbm, ⟨37, _⟩ => ⟨S128x8x5000, .i32⟩
  | .hbm, ⟨38, _⟩ => ⟨S_, .i32⟩
  | .hbm, ⟨39, _⟩ => ⟨S128x8x5000, .i32⟩
  | .hbm, ⟨40, _⟩ => ⟨S128x8x5000, .i32⟩
  | .hbm, ⟨41, _⟩ => ⟨S128x8x5000, .bf16⟩
  | .hbm, ⟨42, _⟩ => ⟨S128x40000, .bf16⟩
  | .hbm, ⟨43, _⟩ => ⟨S2x2048x40000, .f32⟩
  | .hbm, ⟨44, _⟩ => ⟨S2x2048x1, .f32⟩
  | .hbm, ⟨45, _⟩ => ⟨S1x1x40000, .f32⟩
  | .hbm, ⟨46, _⟩ => ⟨S2x2048x40000, .f32⟩
  | .hbm, ⟨47, _⟩ => ⟨S2x2048x40000, .f32⟩
  | .hbm, ⟨48, _⟩ => ⟨S2x2048x40000, .f32⟩
  | .hbm, ⟨49, _⟩ => ⟨S_, .f32⟩
  | .hbm, ⟨50, _⟩ => ⟨S40000, .f32⟩
  | .hbm, ⟨51, _⟩ => ⟨S40000, .f32⟩
  | .hbm, ⟨52, _⟩ => ⟨S1x1x40000, .f32⟩
  | .hbm, ⟨53, _⟩ => ⟨S2x2048x40000, .f32⟩
  | .hbm, ⟨54, _⟩ => ⟨S2x2048x40000, .f32⟩
  | .hbm, ⟨55, _⟩ => ⟨S2x2048x40000, .f32⟩
  | _, _ => ⟨S2x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proof.KernelBody.lean ====
module

public import proofs.«01_k».proof.Proof.Gen.Kernel.Frame
public import proofs.«01_k».proof.Proof.Gen.Kernel.Skeleton
public import Idealize.ShloMosaic.Lib.Pipeline.Value

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the kernel's one branch, as printed: both grid coordinates are zero. -/
def first (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- The sign plane's bytes as the body loads them: the whole block. -/
abbrev ldS (X3 : Vec F S128x5000 .i8) : Vec F S128x5000 .i8 :=
  View.ld X3 (Rect.unit (s := S128x5000) ![0, 0] S128x5000.size inb_S128x5000_S128x5000_0_0)
/-- The three extra bit planes' bytes as the body loads them. -/
abbrev ldE0 (X4 : Vec F S3x128x5000 .i8) : Vec F S1x128x5000 .i8 :=
  View.ld X4 (Rect.unit (s := S3x128x5000) ![0, 0, 0] S1x128x5000.size inb_S3x128x5000_S1x128x5000_0_0_0)
/-- The second extra bits' bytes, as the body loads them. -/
abbrev ldE1 (X4 : Vec F S3x128x5000 .i8) : Vec F S1x128x5000 .i8 :=
  View.ld X4 (Rect.unit (s := S3x128x5000) ![1, 0, 0] S1x128x5000.size inb_S3x128x5000_S1x128x5000_1_0_0)
/-- The third extra bits' bytes, as the body loads them. -/
abbrev ldE2 (X4 : Vec F S3x128x5000 .i8) : Vec F S1x128x5000 .i8 :=
  View.ld X4 (Rect.unit (s := S3x128x5000) ![2, 0, 0] S1x128x5000.size inb_S3x128x5000_S1x128x5000_2_0_0)

/-- Bit plane 0 of the codes as the first grid point computes it from the loaded bytes. -/
def plane0 (X3 : Vec F S128x5000 .i8) (X4 : Vec F S3x128x5000 .i8) : FVec F S128x5000 .bf16 :=
  k0_pay4 (k0_pay3 (ldS X3) (ldE0 X4) (ldE1 X4) (ldE2 X4))
/-- Bit plane 1 of the codes as the first grid point computes it from the loaded bytes. -/
def plane1 (X3 : Vec F S128x5000 .i8) (X4 : Vec F S3x128x5000 .i8) : FVec F S128x5000 .bf16 :=
  k0_pay7 (k0_pay5 (ldS X3) (ldE0 X4) (ldE1 X4) (ldE2 X4)) k0_pay6
/-- Bit plane 2 of the codes as the first grid point computes it from the loaded bytes. -/
def plane2 (X3 : Vec F S128x5000 .i8) (X4 : Vec F S3x128x5000 .i8) : FVec F S128x5000 .bf16 :=
  k0_pay10 (k0_pay8 (ldS X3) (ldE0 X4) (ldE1 X4) (ldE2 X4)) k0_pay9
/-- Bit plane 3 of the codes as the first grid point computes it from the loaded bytes. -/
def plane3 (X3 : Vec F S128x5000 .i8) (X4 : Vec F S3x128x5000 .i8) : FVec F S128x5000 .bf16 :=
  k0_pay13 (k0_pay11 (ldS X3) (ldE0 X4) (ldE1 X4) (ldE2 X4)) k0_pay12
/-- Bit plane 4 of the codes as the first grid point computes it from the loaded bytes. -/
def plane4 (X3 : Vec F S128x5000 .i8) (X4 : Vec F S3x128x5000 .i8) : FVec F S128x5000 .bf16 :=
  k0_pay16 (k0_pay14 (ldS X3) (ldE0 X4) (ldE1 X4)) (k0_pay15 (ldE2 X4))
/-- Bit plane 5 of the codes as the first grid point computes it from the loaded bytes. -/
def plane5 (X3 : Vec F S128x5000 .i8) (X4 : Vec F S3x128x5000 .i8) : FVec F S128x5000 .bf16 :=
  k0_pay19 (k0_pay17 (ldS X3) (ldE0 X4) (ldE1 X4)) (k0_pay18 (ldE2 X4))
/-- Bit plane 6 of the codes as the first grid point computes it from the loaded bytes. -/
def plane6 (X3 : Vec F S128x5000 .i8) (X4 : Vec F S3x128x5000 .i8) : FVec F S128x5000 .bf16 :=
  k0_pay21 (k0_pay20 (ldS X3) (ldE0 X4) (ldE1 X4)) (ldE2 X4)
/-- Bit plane 7 of the codes as the first grid point computes it from the loaded bytes. -/
def plane7 (X3 : Vec F S128x5000 .i8) (X4 : Vec F S3x128x5000 .i8) : FVec F S128x5000 .bf16 :=
  k0_pay1 (k0_pay22 (ldS X3) (ldE0 X4)) (k0_pay23 (ldE1 X4)) 5#32 (ldE2 X4)
/-- The eight stores of the first grid point into the weights' scratch, the last one first: bit plane `k` of the codes,
    in the columns `5000 k` to `5000 k + 4999`. -/
def pieces (X3 : Vec F S128x5000 .i8) (X4 : Vec F S3x128x5000 .i8) : List (View.Piece (Elt F) S128x40960 .bf16) :=
  [⟨Rect.unit (s := S128x40960) ![0, 35000] S128x5000.size inb_S128x40960_S128x5000_0_35000, plane7 X3 X4⟩,
   ⟨Rect.unit (s := S128x40960) ![0, 30000] S128x5000.size inb_S128x40960_S128x5000_0_30000, plane6 X3 X4⟩,
   ⟨Rect.unit (s := S128x40960) ![0, 25000] S128x5000.size inb_S128x40960_S128x5000_0_25000, plane5 X3 X4⟩,
   ⟨Rect.unit (s := S128x40960) ![0, 20000] S128x5000.size inb_S128x40960_S128x5000_0_20000, plane4 X3 X4⟩,
   ⟨Rect.unit (s := S128x40960) ![0, 15000] S128x5000.size inb_S128x40960_S128x5000_0_15000, plane3 X3 X4⟩,
   ⟨Rect.unit (s := S128x40960) ![0, 10000] S128x5000.size inb_S128x40960_S128x5000_0_10000, plane2 X3 X4⟩,
   ⟨Rect.unit (s := S128x40960) ![0, 5000] S128x5000.size inb_S128x40960_S128x5000_0_5000, plane1 X3 X4⟩,
   ⟨Rect.unit (s := S128x40960) ![0, 0] S128x5000.size inb_S128x40960_S128x5000_0_0, plane0 X3 X4⟩]

/-- What the body loads of the unpacked weights `S`: the 128 by 5120 column tile at the grid point's offset. -/
abbrev ldW (i : grid0.Coords) (S : Vec F S128x40960 .bf16) : Vec F S128x5120 .bf16 :=
  View.ld S (Rect.unit (s := S128x40960) (k0_off1 i) S128x5120.size (k0_off1_inb i))

/-- Offsets zero, however written. -/
theorem hz2 : (![0, 0] : Fin 2 → Nat) = fun _ => 0 := funext fun a => by fin_cases a <;> rfl

set_option maxHeartbeats 1000000 in
/-- The body away from the first grid point: the branch is skipped; the output block ends at the printed score
    expression of the loaded blocks and the weights' tile, everything else unchanged. -/
theorem body_rest (c : Dev nD) (E : Set ℕ) (i : grid0.Coords) (hi : ¬ first i = 1#1)
    (arg2 : Memref sig .tc .vmem S256x128 .bf16) (harg2 : arg2.IsWhole) (arg3 : Memref sig .tc .vmem S128x5000 .i8) (harg3 : arg3.IsWhole)
    (arg4 : Memref sig .tc .vmem S3x128x5000 .i8) (harg4 : arg4.IsWhole) (arg5 : Memref sig .tc .vmem S1x5120 .f32) (harg5 : arg5.IsWhole)
    (arg6 : Memref sig .tc .vmem S1x5120 .f32) (harg6 : arg6.IsWhole) (arg7 : Memref sig .tc .vmem S256x1 .f32) (harg7 : arg7.IsWhole)
    (arg8 : Memref sig .tc .vmem S256x5120 .f32) (harg8 : arg8.IsWhole) (arg9 : Memref sig .tc .vmem S128x40960 .bf16) (harg9 : arg9.IsWhole)
    (X2 : Vec F S256x128 .bf16) (X3 : Vec F S128x5000 .i8) (X4 : Vec F S3x128x5000 .i8) (X5 X6 : Vec F S1x5120 .f32)
    (X7 : Vec F S256x1 .f32) (X8 : Vec F S256x5120 .f32) (S : Vec F S128x40960 .bf16) (K : PUnit → sProp 𝕄) :
    iprop((owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6 ∗ owns (c : Thread nD τ) arg7 fullShare X7
        ∗ owns (c : Thread nD τ) arg8 fullShare X8 ∗ owns (c : Thread nD τ) arg9 fullShare S)
      ∗ (iprop(owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6 ∗ owns (c : Thread nD τ) arg7 fullShare X7
        ∗ owns (c : Thread nD τ) arg8 fullShare (k0_pay2 X2 (ldW i S) X5 X7 X6)
        ∗ owns (c : Thread nD τ) arg9 fullShare S) -∗ K ⟨⟩))
      ⊢ wp frame (wpE (defs₀ (F := F)) Variants.none c none) E
          (cc0_rabitq_scores i arg2 harg2 arg3 harg3 arg4 harg4 arg5 harg5 arg6 harg6 arg7 harg7 arg8 harg8 arg9 harg9) K := by
  unfold first at hi
  simp only [cc0_rabitq_scores_eq_skeleton]; unfold cc0_rabitq_scores_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, -, H8⟩, ⟨%f9, %hf9, H9⟩⟩, Hk⟩
  subst hf2 hf3 hf4 hf5 hf6 hf7 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    refine (View.read_writes_eq_canon _ _ _ (fun y => ⟨_, List.mem_singleton_self _, View.mem_set_unit_zero hz2 inb_S256x5120_S256x5120_0_0 y⟩)).trans ?_
    rw [View.canon_unit_zero hz2]
    simp only [View.readAt_eq_ld]
    rw [View.ld_unit_zero hz2, View.ld_unit_zero hz2, View.ld_unit_zero hz2, View.ld_unit_zero hz2]
  · iexists f9; isplitr; · ipureintro; rfl
    iexact H9

set_option maxHeartbeats 4000000 in
/-- The body at the first grid point: it first stores the eight bit planes into the weights' scratch (whatever that held),
    then the output block ends at the printed score expression of the loaded blocks and the scratch's tile. -/
theorem body_first (c : Dev nD) (E : Set ℕ) (i : grid0.Coords) (hi : first i = 1#1)
    (arg2 : Memref sig .tc .vmem S256x128 .bf16) (harg2 : arg2.IsWhole) (arg3 : Memref sig .tc .vmem S128x5000 .i8) (harg3 : arg3.IsWhole)
    (arg4 : Memref sig .tc .vmem S3x128x5000 .i8) (harg4 : arg4.IsWhole) (arg5 : Memref sig .tc .vmem S1x5120 .f32) (harg5 : arg5.IsWhole)
    (arg6 : Memref sig .tc .vmem S1x5120 .f32) (harg6 : arg6.IsWhole) (arg7 : Memref sig .tc .vmem S256x1 .f32) (harg7 : arg7.IsWhole)
    (arg8 : Memref sig .tc .vmem S256x5120 .f32) (harg8 : arg8.IsWhole) (arg9 : Memref sig .tc .vmem S128x40960 .bf16) (harg9 : arg9.IsWhole)
    (X2 : Vec F S256x128 .bf16) (X3 : Vec F S128x5000 .i8) (X4 : Vec F S3x128x5000 .i8) (X5 X6 : Vec F S1x5120 .f32)
    (X7 : Vec F S256x1 .f32) (X8 : Vec F S256x5120 .f32) (S : Vec F S128x40960 .bf16) (K : PUnit → sProp 𝕄) :
    iprop((owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6 ∗ owns (c : Thread nD τ) arg7 fullShare X7
        ∗ owns (c : Thread nD τ) arg8 fullShare X8 ∗ owns (c : Thread nD τ) arg9 fullShare S)
      ∗ (∀ S', ⌜∀ y, (∃ p ∈ pieces X3 X4, y ∈ p.1.set) → S' y = View.canon (pieces X3 X4) y⌝ -∗
        iprop(owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6 ∗ owns (c : Thread nD τ) arg7 fullShare X7
        ∗ owns (c : Thread nD τ) arg8 fullShare (k0_pay2 X2 (ldW i S') X5 X7 X6)
        ∗ owns (c : Thread nD τ) arg9 fullShare S') -∗ K ⟨⟩))
      ⊢ wp frame (wpE (defs₀ (F := F)) Variants.none c none) E
          (cc0_rabitq_scores i arg2 harg2 arg3 harg3 arg4 harg4 arg5 harg5 arg6 harg6 arg7 harg7 arg8 harg8 arg9 harg9) K := by
  unfold first at hi
  simp only [cc0_rabitq_scores_eq_skeleton]; unfold cc0_rabitq_scores_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, -, H8⟩, ⟨%f9, -, H9⟩⟩, Hk⟩
  subst hf2 hf3 hf4 hf5 hf6 hf7
  sl_exec_parts
  sl_step
  ispecialize Hk $$ %(arg9.view.read (Elt F) (arg9.view.writes (Elt F) f9 (pieces (arg3.view.read (Elt F) f3) (arg4.view.read (Elt F) f4))))
  iapply Hk
  · ipureintro
    intro y hy
    exact View.read_writes_apply_eq_canon _ _ y _ hy
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    refine (View.read_writes_eq_canon _ _ _ (fun y => ⟨_, List.mem_singleton_self _, View.mem_set_unit_zero hz2 inb_S256x5120_S256x5120_0_0 y⟩)).trans ?_
    rw [View.canon_unit_zero hz2]
    simp only [View.readAt_eq_ld]
    rw [View.ld_unit_zero hz2, View.ld_unit_zero hz2, View.ld_unit_zero hz2, View.ld_unit_zero hz2]
    rfl
  · iexists _; isplitr
    swap; · iexact H9
    ipureintro
    rfl

end Cert.Kernel.Body

end
-- ==== Proof.KernelFrame.lean ====
module

public import proofs.«01_k».proof.Proof.KernelBody
public import proofs.«01_k».proof.Proof.Gen.Kernel.Points

@[expose] public section

set_option maxRecDepth 16384

noncomputable section

namespace Cert.Kernel.Frame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of `f_add` at point `t`, filled out past the array's end with the zero word. -/
def addBlk (c : Dev nD) (t : Fin cfg0.N) : S1x5120.Idx → Elt F .f32 :=
  win0_3.fill (grid0.coords t) (fun _ => Scalar.ofBits .f32 0#32) (iblk m c 3 t)
/-- The block of `f_rescale` at point `t`, filled out past the array's end with the zero word. -/
def resBlk (c : Dev nD) (t : Fin cfg0.N) : S1x5120.Idx → Elt F .f32 :=
  win0_4.fill (grid0.coords t) (fun _ => Scalar.ofBits .f32 0#32) (iblk m c 4 t)

/-- The proof data of the one pipeline: the arrays as the region finds them, every input's buffer left at its block, the
    output's not described, and of the scratch nothing but that the body may use it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => addBlk m c t
    | ⟨4, _⟩ => resBlk m c t
    | ⟨5, _⟩ => iblk m c 5 t
    | ⟨6, _⟩ => fun _ => Scalar.ofBits .f32 0#32
  Φ _ := Pipeline.ΦA spec0 c
  q _ := fullShare
  owed _ := 0

/-- The windows whose buffers' contents are not described: the output's. -/
def fgt (w : Fin cfg0.W) : Bool := match w with
  | ⟨6, _⟩ => true
  | ⟨_, _⟩ => false

/-- The `f_add` window's buffer holds its block on the part inside the array, at every point. -/
theorem before_3 (c : Dev nD) (t : Fin cfg0.N) (d) :
    (dats m 0 c).before (3 : Fin 7) t d = win0_3.fill (grid0.coords t) d (iblk m c 3 t) :=
  (dats m 0 c).before_in_eq_fetched 3 rfl (fun _ => rfl)
    (fun t t' h => funext fun a => congrArg (fun n => Pipeline.Clip.of n (S1x5120.size a) (S1x40000.size a)) (congrFun h a))
    (fun t => win0_3.cut_fill _ _ _) t d
/-- The `f_rescale` window's buffer holds its block on the part inside the array, at every point. -/
theorem before_4 (c : Dev nD) (t : Fin cfg0.N) (d) :
    (dats m 0 c).before (4 : Fin 7) t d = win0_4.fill (grid0.coords t) d (iblk m c 4 t) :=
  (dats m 0 c).before_in_eq_fetched 4 rfl (fun _ => rfl)
    (fun t t' h => funext fun a => congrArg (fun n => Pipeline.Clip.of n (S1x5120.size a) (S1x40000.size a)) (congrFun h a))
    (fun t => win0_4.cut_fill _ _ _) t d

/-- The scratch at contents `S` is the scratch at some contents. -/
theorem scratch_out (c : Dev nD) (S : Vec F S128x40960 .bf16) :
    (owns (c : Thread nD τ) (Memref.whole cc0_scratch0) fullShare S : sProp 𝕄)
      ⊢ iprop(∃ f : Buf (Elt F) ((c : Thread nD τ).loc cc0_scratch0), ((c : Thread nD τ).loc cc0_scratch0) ↦{fullShare} f) := by
  rw [owns_whole_eq]
  iintro ⟨%f, -, H⟩
  iexists f; iexact H

/-- What the staging buffers hand to the body, taken back from it with the output's at anything: every input's buffer
    with its block. -/
theorem body_obligation (c : Dev nD) : BodyObligationLoose (dats m 0 c) (defs₀ (F := F)) Variants.none () Set.univ fgt := fun t => by
  rw [bigSep_W0, bigSep_W0]
  simp only [show fgt (0 : Fin 7) = false from rfl, show fgt (1 : Fin 7) = false from rfl, show fgt (2 : Fin 7) = false from rfl,
    show fgt (3 : Fin 7) = false from rfl, show fgt (4 : Fin 7) = false from rfl, show fgt (5 : Fin 7) = false from rfl,
    show fgt (6 : Fin 7) = true from rfl]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨%S, HS⟩, Hr⟩, Ho, ⟨%d0, H0⟩, ⟨%d1, H1⟩, ⟨%d2, H2⟩, ⟨%d3, H3⟩, ⟨%d4, H4⟩, ⟨%d5, H5⟩, ⟨%X8, H6⟩⟩
  rw [before0_0_of m (dats m 0 c) rfl (fun _ => rfl) t d0, before0_1_of m (dats m 0 c) rfl (fun _ => rfl) t d1,
    before0_2_of m (dats m 0 c) rfl (fun _ => rfl) t d2, before_3 m c t d3, before_4 m c t d4,
    before0_5_of m (dats m 0 c) rfl (fun _ => rfl) t d5]
  have h3 : win0_3.cut (grid0.coords t) (addBlk m c t) = iblk m c 3 t := win0_3.cut_fill _ _ _
  have h4 : win0_4.cut (grid0.coords t) (resBlk m c t) = iblk m c 4 t := win0_4.cut_fill _ _ _
  by_cases hi : first (grid0.coords t) = 1#1
  · iapply (body_first (F := F) c Set.univ (grid0.coords t) hi
      (stage0_0 (cfg0.slots t 0)) _ (stage0_1 (cfg0.slots t 1)) _ (stage0_2 (cfg0.slots t 2)) _ (stage0_3 (cfg0.slots t 3)) _
      (stage0_4 (cfg0.slots t 4)) _ (stage0_5 (cfg0.slots t 5)) _ (stage0_6 (cfg0.slots t 6)) _ (Memref.whole cc0_scratch0) (Memref.isWhole_whole _)
      (iblk m c 0 t) (iblk m c 1 t) (iblk m c 2 t) (win0_3.fill (grid0.coords t) d3 (iblk m c 3 t))
      (win0_4.fill (grid0.coords t) d4 (iblk m c 4 t)) (iblk m c 5 t) X8 S _)
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      rw [owns_whole_eq]; iexists S; isplitr; · ipureintro; rfl
      iexact HS
    iintro %S' - ⟨H0, H1, H2, H3, H4, H5, H6, HS⟩
    isplitl [HS Hr]
    · isplitl [HS]
      · iapply (scratch_out c S'); iexact HS
      · iexact Hr
    isplitl [Ho]; · iexact Ho
    isplitl [H0]; · iexact H0
    isplitl [H1]; · iexact H1
    isplitl [H2]; · iexact H2
    isplitl [H3]
    · iexists d3
      change _ ⊢ owns (c : Thread nD τ) (stage0_3 (cfg0.slots t 3)) fullShare (win0_3.fill (grid0.coords t) d3 (win0_3.cut (grid0.coords t) (addBlk m c t)))
      rw [h3]; try iexact H3
    isplitl [H4]
    · iexists d4
      change _ ⊢ owns (c : Thread nD τ) (stage0_4 (cfg0.slots t 4)) fullShare (win0_4.fill (grid0.coords t) d4 (win0_4.cut (grid0.coords t) (resBlk m c t)))
      rw [h4]; try iexact H4
    isplitl [H5]; · iexact H5
    iexists _; iexact H6
  · iapply (body_rest (F := F) c Set.univ (grid0.coords t) hi
      (stage0_0 (cfg0.slots t 0)) _ (stage0_1 (cfg0.slots t 1)) _ (stage0_2 (cfg0.slots t 2)) _ (stage0_3 (cfg0.slots t 3)) _
      (stage0_4 (cfg0.slots t 4)) _ (stage0_5 (cfg0.slots t 5)) _ (stage0_6 (cfg0.slots t 6)) _ (Memref.whole cc0_scratch0) (Memref.isWhole_whole _)
      (iblk m c 0 t) (iblk m c 1 t) (iblk m c 2 t) (win0_3.fill (grid0.coords t) d3 (iblk m c 3 t))
      (win0_4.fill (grid0.coords t) d4 (iblk m c 4 t)) (iblk m c 5 t) X8 S _)
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      rw [owns_whole_eq]; iexists S; isplitr; · ipureintro; rfl
      iexact HS
    iintro ⟨H0, H1, H2, H3, H4, H5, H6, HS⟩
    isplitl [HS Hr]
    · isplitl [HS]
      · iapply (scratch_out c S); iexact HS
      · iexact Hr
    isplitl [Ho]; · iexact Ho
    isplitl [H0]; · iexact H0
    isplitl [H1]; · iexact H1
    isplitl [H2]; · iexact H2
    isplitl [H3]
    · iexists d3
      change _ ⊢ owns (c : Thread nD τ) (stage0_3 (cfg0.slots t 3)) fullShare (win0_3.fill (grid0.coords t) d3 (win0_3.cut (grid0.coords t) (addBlk m c t)))
      rw [h3]; try iexact H3
    isplitl [H4]
    · iexists d4
      change _ ⊢ owns (c : Thread nD τ) (stage0_4 (cfg0.slots t 4)) fullShare (win0_4.fill (grid0.coords t) d4 (win0_4.cut (grid0.coords t) (resBlk m c t)))
      rw [h4]; try iexact H4
    isplitl [H5]; · iexact H5
    iexists _; iexact H6

/-- The buffers the host writes after the kernel: the result's. -/
def T : Finset (Ref sig .tc) := {main_v5}

/-- The host operations after the region write the result's buffer and nothing else. -/
theorem hT : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl
  rw [StableHlo.reshape_writes, Finset.mem_singleton] at hb
  have hb' : b = main_v5 := by
    by_contra hne
    exact StableHlo.devRef_ne_of_ne hne hb
  rw [hb']; exact Finset.mem_singleton_self _

set_option backward.isDefEq.respectTransparency.types false in
/-- THE FRAME: from any memory with zero counters, every weakly fair execution of the kernel terminates without fault, the
    argument arrays end unchanged and every semaphore counter ends at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_around_T_forget cfgs (dats m) 0 launch0 defs₀ Variants.none fgt T m ρ main (body_obligation m)
    (fun c => (dats m 0 c).share_full fun _ => rfl) (fun _ _ => rfl) (V0 m) [hostOps1] sfx_sub sfx_fresh sfx_keeps hT
    (hmain m Variants.none) (fun _ _ => rfl) (fun _ _ => rfl) _
    (fun r h => ⟨fun c =>
      ⟨((h.1 c).2 main_arg0 (by decide)).trans (V_main_arg0 m c),
       (h.1.arr_in c 1 rfl).trans (V_main_arg1 m c),
       (h.1.arr_in c 2 rfl).trans (V_main_arg2 m c),
       ((h.1 c).2 main_arg3 (by decide)).trans (V_main_arg3 m c),
       ((h.1 c).2 main_arg4 (by decide)).trans (V_main_arg4 m c),
       ((h.1 c).2 main_arg5 (by decide)).trans (V_main_arg5 m c)⟩, h.2⟩)

end Cert.Kernel.Frame

end
-- ==== Proof.KernelIdealBody.lean ====
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the kernel's one branch, as printed: both grid coordinates are zero. -/
def first (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- The sign plane's bytes as the body loads them: the whole block. -/
abbrev ldS (X3 : Vec F S128x5000 .i8) : Vec F S128x5000 .i8 :=
  View.ld X3 (Rect.unit (s := S128x5000) ![0, 0] S128x5000.size inb_S128x5000_S128x5000_0_0)
/-- The three extra bit planes' bytes as the body loads them. -/
abbrev ldE0 (X4 : Vec F S3x128x5000 .i8) : Vec F S1x128x5000 .i8 :=
  View.ld X4 (Rect.unit (s := S3x128x5000) ![0, 0, 0] S1x128x5000.size inb_S3x128x5000_S1x128x5000_0_0_0)
/-- The second extra bits' bytes, as the body loads them. -/
abbrev ldE1 (X4 : Vec F S3x128x5000 .i8) : Vec F S1x128x5000 .i8 :=
  View.ld X4 (Rect.unit (s := S3x128x5000) ![1, 0, 0] S1x128x5000.size inb_S3x128x5000_S1x128x5000_1_0_0)
/-- The third extra bits' bytes, as the body loads them. -/
abbrev ldE2 (X4 : Vec F S3x128x5000 .i8) : Vec F S1x128x5000 .i8 :=
  View.ld X4 (Rect.unit (s := S3x128x5000) ![2, 0, 0] S1x128x5000.size inb_S3x128x5000_S1x128x5000_2_0_0)

/-- Bit plane 0 of the codes as the first grid point computes it from the loaded bytes. -/
def plane0 (X3 : Vec F S128x5000 .i8) (X4 : Vec F S3x128x5000 .i8) : FVec F S128x5000 .bf16 :=
  k0_pay4 (k0_pay3 (ldS X3) (ldE0 X4) (ldE1 X4) (ldE2 X4))
/-- Bit plane 1 of the codes as the first grid point computes it from the loaded bytes. -/
def plane1 (X3 : Vec F S128x5000 .i8) (X4 : Vec F S3x128x5000 .i8) : FVec F S128x5000 .bf16 :=
  k0_pay7 (k0_pay5 (ldS X3) (ldE0 X4) (ldE1 X4) (ldE2 X4)) k0_pay6
/-- Bit plane 2 of the codes as the first grid point computes it from the loaded bytes. -/
def plane2 (X3 : Vec F S128x5000 .i8) (X4 : Vec F S3x128x5000 .i8) : FVec F S128x5000 .bf16 :=
  k0_pay10 (k0_pay8 (ldS X3) (ldE0 X4) (ldE1 X4) (ldE2 X4)) k0_pay9
/-- Bit plane 3 of the codes as the first grid point computes it from the loaded bytes. -/
def plane3 (X3 : Vec F S128x5000 .i8) (X4 : Vec F S3x128x5000 .i8) : FVec F S128x5000 .bf16 :=
  k0_pay13 (k0_pay11 (ldS X3) (ldE0 X4) (ldE1 X4) (ldE2 X4)) k0_pay12
/-- Bit plane 4 of the codes as the first grid point computes it from the loaded bytes. -/
def plane4 (X3 : Vec F S128x5000 .i8) (X4 : Vec F S3x128x5000 .i8) : FVec F S128x5000 .bf16 :=
  k0_pay16 (k0_pay14 (ldS X3) (ldE0 X4) (ldE1 X4)) (k0_pay15 (ldE2 X4))
/-- Bit plane 5 of the codes as the first grid point computes it from the loaded bytes. -/
def plane5 (X3 : Vec F S128x5000 .i8) (X4 : Vec F S3x128x5000 .i8) : FVec F S128x5000 .bf16 :=
  k0_pay19 (k0_pay17 (ldS X3) (ldE0 X4) (ldE1 X4)) (k0_pay18 (ldE2 X4))
/-- Bit plane 6 of the codes as the first grid point computes it from the loaded bytes. -/
def plane6 (X3 : Vec F S128x5000 .i8) (X4 : Vec F S3x128x5000 .i8) : FVec F S128x5000 .bf16 :=
  k0_pay21 (k0_pay20 (ldS X3) (ldE0 X4) (ldE1 X4)) (ldE2 X4)
/-- Bit plane 7 of the codes as the first grid point computes it from the loaded bytes. -/
def plane7 (X3 : Vec F S128x5000 .i8) (X4 : Vec F S3x128x5000 .i8) : FVec F S128x5000 .bf16 :=
  k0_pay1 (k0_pay22 (ldS X3) (ldE0 X4)) (k0_pay23 (ldE1 X4)) 5#32 (ldE2 X4)
/-- The eight stores of the first grid point into the weights' scratch, the last one first: bit plane `k` of the codes,
    in the columns `5000 k` to `5000 k + 4999`. -/
def pieces (X3 : Vec F S128x5000 .i8) (X4 : Vec F S3x128x5000 .i8) : List (View.Piece (Elt F) S128x40960 .bf16) :=
  [⟨Rect.unit (s := S128x40960) ![0, 35000] S128x5000.size inb_S128x40960_S128x5000_0_35000, plane7 X3 X4⟩,
   ⟨Rect.unit (s := S128x40960) ![0, 30000] S128x5000.size inb_S128x40960_S128x5000_0_30000, plane6 X3 X4⟩,
   ⟨Rect.unit (s := S128x40960) ![0, 25000] S128x5000.size inb_S128x40960_S128x5000_0_25000, plane5 X3 X4⟩,
   ⟨Rect.unit (s := S128x40960) ![0, 20000] S128x5000.size inb_S128x40960_S128x5000_0_20000, plane4 X3 X4⟩,
   ⟨Rect.unit (s := S128x40960) ![0, 15000] S128x5000.size inb_S128x40960_S128x5000_0_15000, plane3 X3 X4⟩,
   ⟨Rect.unit (s := S128x40960) ![0, 10000] S128x5000.size inb_S128x40960_S128x5000_0_10000, plane2 X3 X4⟩,
   ⟨Rect.unit (s := S128x40960) ![0, 5000] S128x5000.size inb_S128x40960_S128x5000_0_5000, plane1 X3 X4⟩,
   ⟨Rect.unit (s := S128x40960) ![0, 0] S128x5000.size inb_S128x40960_S128x5000_0_0, plane0 X3 X4⟩]

/-- What the body loads of the unpacked weights `S`: the 128 by 5120 column tile at the grid point's offset. -/
abbrev ldW (i : grid0.Coords) (S : Vec F S128x40960 .bf16) : Vec F S128x5120 .bf16 :=
  View.ld S (Rect.unit (s := S128x40960) (k0_off1 i) S128x5120.size (k0_off1_inb i))

/-- Offsets zero, however written. -/
theorem hz2 : (![0, 0] : Fin 2 → Nat) = fun _ => 0 := funext fun a => by fin_cases a <;> rfl

set_option maxHeartbeats 1000000 in
/-- The body away from the first grid point: the branch is skipped; the output block ends at the printed score
    expression of the loaded blocks and the weights' tile, everything else unchanged. -/
theorem body_rest (c : Dev nD) (E : Set ℕ) (i : grid0.Coords) (hi : ¬ first i = 1#1)
    (arg2 : Memref sig .tc .vmem S256x128 .bf16) (harg2 : arg2.IsWhole) (arg3 : Memref sig .tc .vmem S128x5000 .i8) (harg3 : arg3.IsWhole)
    (arg4 : Memref sig .tc .vmem S3x128x5000 .i8) (harg4 : arg4.IsWhole) (arg5 : Memref sig .tc .vmem S1x5120 .f32) (harg5 : arg5.IsWhole)
    (arg6 : Memref sig .tc .vmem S1x5120 .f32) (harg6 : arg6.IsWhole) (arg7 : Memref sig .tc .vmem S256x1 .f32) (harg7 : arg7.IsWhole)
    (arg8 : Memref sig .tc .vmem S256x5120 .f32) (harg8 : arg8.IsWhole) (arg9 : Memref sig .tc .vmem S128x40960 .bf16) (harg9 : arg9.IsWhole)
    (X2 : Vec F S256x128 .bf16) (X3 : Vec F S128x5000 .i8) (X4 : Vec F S3x128x5000 .i8) (X5 X6 : Vec F S1x5120 .f32)
    (X7 : Vec F S256x1 .f32) (X8 : Vec F S256x5120 .f32) (S : Vec F S128x40960 .bf16) (K : PUnit → sProp 𝕄) :
    iprop((owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6 ∗ owns (c : Thread nD τ) arg7 fullShare X7
        ∗ owns (c : Thread nD τ) arg8 fullShare X8 ∗ owns (c : Thread nD τ) arg9 fullShare S)
      ∗ (iprop(owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6 ∗ owns (c : Thread nD τ) arg7 fullShare X7
        ∗ owns (c : Thread nD τ) arg8 fullShare (k0_pay2 X2 (ldW i S) X5 X7 X6)
        ∗ owns (c : Thread nD τ) arg9 fullShare S) -∗ K ⟨⟩))
      ⊢ wp frame (wpE (defs₀ (F := F)) Variants.none c none) E
          (cc0_rabitq_scores i arg2 harg2 arg3 harg3 arg4 harg4 arg5 harg5 arg6 harg6 arg7 harg7 arg8 harg8 arg9 harg9) K := by
  unfold first at hi
  simp only [cc0_rabitq_scores_eq_skeleton]; unfold cc0_rabitq_scores_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, -, H8⟩, ⟨%f9, %hf9, H9⟩⟩, Hk⟩
  subst hf2 hf3 hf4 hf5 hf6 hf7 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    refine (View.read_writes_eq_canon _ _ _ (fun y => ⟨_, List.mem_singleton_self _, View.mem_set_unit_zero hz2 inb_S256x5120_S256x5120_0_0 y⟩)).trans ?_
    rw [View.canon_unit_zero hz2]
    simp only [View.readAt_eq_ld]
    rw [View.ld_unit_zero hz2, View.ld_unit_zero hz2, View.ld_unit_zero hz2, View.ld_unit_zero hz2]
  · iexists f9; isplitr; · ipureintro; rfl
    iexact H9

set_option maxHeartbeats 4000000 in
/-- The body at the first grid point: it first stores the eight bit planes into the weights' scratch (whatever that held),
    then the output block ends at the printed score expression of the loaded blocks and the scratch's tile. -/
theorem body_first (c : Dev nD) (E : Set ℕ) (i : grid0.Coords) (hi : first i = 1#1)
    (arg2 : Memref sig .tc .vmem S256x128 .bf16) (harg2 : arg2.IsWhole) (arg3 : Memref sig .tc .vmem S128x5000 .i8) (harg3 : arg3.IsWhole)
    (arg4 : Memref sig .tc .vmem S3x128x5000 .i8) (harg4 : arg4.IsWhole) (arg5 : Memref sig .tc .vmem S1x5120 .f32) (harg5 : arg5.IsWhole)
    (arg6 : Memref sig .tc .vmem S1x5120 .f32) (harg6 : arg6.IsWhole) (arg7 : Memref sig .tc .vmem S256x1 .f32) (harg7 : arg7.IsWhole)
    (arg8 : Memref sig .tc .vmem S256x5120 .f32) (harg8 : arg8.IsWhole) (arg9 : Memref sig .tc .vmem S128x40960 .bf16) (harg9 : arg9.IsWhole)
    (X2 : Vec F S256x128 .bf16) (X3 : Vec F S128x5000 .i8) (X4 : Vec F S3x128x5000 .i8) (X5 X6 : Vec F S1x5120 .f32)
    (X7 : Vec F S256x1 .f32) (X8 : Vec F S256x5120 .f32) (S : Vec F S128x40960 .bf16) (K : PUnit → sProp 𝕄) :
    iprop((owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6 ∗ owns (c : Thread nD τ) arg7 fullShare X7
        ∗ owns (c : Thread nD τ) arg8 fullShare X8 ∗ owns (c : Thread nD τ) arg9 fullShare S)
      ∗ (∀ S', ⌜∀ y, (∃ p ∈ pieces X3 X4, y ∈ p.1.set) → S' y = View.canon (pieces X3 X4) y⌝ -∗
        iprop(owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6 ∗ owns (c : Thread nD τ) arg7 fullShare X7
        ∗ owns (c : Thread nD τ) arg8 fullShare (k0_pay2 X2 (ldW i S') X5 X7 X6)
        ∗ owns (c : Thread nD τ) arg9 fullShare S') -∗ K ⟨⟩))
      ⊢ wp frame (wpE (defs₀ (F := F)) Variants.none c none) E
          (cc0_rabitq_scores i arg2 harg2 arg3 harg3 arg4 harg4 arg5 harg5 arg6 harg6 arg7 harg7 arg8 harg8 arg9 harg9) K := by
  unfold first at hi
  simp only [cc0_rabitq_scores_eq_skeleton]; unfold cc0_rabitq_scores_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, -, H8⟩, ⟨%f9, -, H9⟩⟩, Hk⟩
  subst hf2 hf3 hf4 hf5 hf6 hf7
  sl_exec_parts
  sl_step
  ispecialize Hk $$ %(arg9.view.read (Elt F) (arg9.view.writes (Elt F) f9 (pieces (arg3.view.read (Elt F) f3) (arg4.view.read (Elt F) f4))))
  iapply Hk
  · ipureintro
    intro y hy
    exact View.read_writes_apply_eq_canon _ _ y _ hy
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    refine (View.read_writes_eq_canon _ _ _ (fun y => ⟨_, List.mem_singleton_self _, View.mem_set_unit_zero hz2 inb_S256x5120_S256x5120_0_0 y⟩)).trans ?_
    rw [View.canon_unit_zero hz2]
    simp only [View.readAt_eq_ld]
    rw [View.ld_unit_zero hz2, View.ld_unit_zero hz2, View.ld_unit_zero hz2, View.ld_unit_zero hz2]
    rfl
  · iexists _; isplitr
    swap; · iexact H9
    ipureintro
    rfl

end Cert.KernelIdeal.Body

end
-- ==== Proof.KernelIdealFrame.lean ====
module

public import proofs.«01_k».proof.Proof.KernelIdealBody
public import proofs.«01_k».proof.Proof.Gen.KernelIdeal.Points

@[expose] public section

set_option maxRecDepth 16384

noncomputable section

namespace Cert.KernelIdeal.Frame

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of `f_add` at point `t`, filled out past the array's end with the zero word. -/
def addBlk (c : Dev nD) (t : Fin cfg0.N) : S1x5120.Idx → Elt F .f32 :=
  win0_3.fill (grid0.coords t) (fun _ => Scalar.ofBits .f32 0#32) (iblk m c 3 t)
/-- The block of `f_rescale` at point `t`, filled out past the array's end with the zero word. -/
def resBlk (c : Dev nD) (t : Fin cfg0.N) : S1x5120.Idx → Elt F .f32 :=
  win0_4.fill (grid0.coords t) (fun _ => Scalar.ofBits .f32 0#32) (iblk m c 4 t)

/-- The proof data of the one pipeline: the arrays as the region finds them, every input's buffer left at its block, the
    output's not described, and of the scratch nothing but that the body may use it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => addBlk m c t
    | ⟨4, _⟩ => resBlk m c t
    | ⟨5, _⟩ => iblk m c 5 t
    | ⟨6, _⟩ => fun _ => Scalar.ofBits .f32 0#32
  Φ _ := Pipeline.ΦA spec0 c
  q _ := fullShare
  owed _ := 0

/-- The windows whose buffers' contents are not described: the output's. -/
def fgt (w : Fin cfg0.W) : Bool := match w with
  | ⟨6, _⟩ => true
  | ⟨_, _⟩ => false

/-- The `f_add` window's buffer holds its block on the part inside the array, at every point. -/
theorem before_3 (c : Dev nD) (t : Fin cfg0.N) (d) :
    (dats m 0 c).before (3 : Fin 7) t d = win0_3.fill (grid0.coords t) d (iblk m c 3 t) :=
  (dats m 0 c).before_in_eq_fetched 3 rfl (fun _ => rfl)
    (fun t t' h => funext fun a => congrArg (fun n => Pipeline.Clip.of n (S1x5120.size a) (S1x40000.size a)) (congrFun h a))
    (fun t => win0_3.cut_fill _ _ _) t d
/-- The `f_rescale` window's buffer holds its block on the part inside the array, at every point. -/
theorem before_4 (c : Dev nD) (t : Fin cfg0.N) (d) :
    (dats m 0 c).before (4 : Fin 7) t d = win0_4.fill (grid0.coords t) d (iblk m c 4 t) :=
  (dats m 0 c).before_in_eq_fetched 4 rfl (fun _ => rfl)
    (fun t t' h => funext fun a => congrArg (fun n => Pipeline.Clip.of n (S1x5120.size a) (S1x40000.size a)) (congrFun h a))
    (fun t => win0_4.cut_fill _ _ _) t d

/-- The scratch at contents `S` is the scratch at some contents. -/
theorem scratch_out (c : Dev nD) (S : Vec F S128x40960 .bf16) :
    (owns (c : Thread nD τ) (Memref.whole cc0_scratch0) fullShare S : sProp 𝕄)
      ⊢ iprop(∃ f : Buf (Elt F) ((c : Thread nD τ).loc cc0_scratch0), ((c : Thread nD τ).loc cc0_scratch0) ↦{fullShare} f) := by
  rw [owns_whole_eq]
  iintro ⟨%f, -, H⟩
  iexists f; iexact H

/-- What the staging buffers hand to the body, taken back from it with the output's at anything: every input's buffer
    with its block. -/
theorem body_obligation (c : Dev nD) : BodyObligationLoose (dats m 0 c) (defs₀ (F := F)) Variants.none () Set.univ fgt := fun t => by
  rw [bigSep_W0, bigSep_W0]
  simp only [show fgt (0 : Fin 7) = false from rfl, show fgt (1 : Fin 7) = false from rfl, show fgt (2 : Fin 7) = false from rfl,
    show fgt (3 : Fin 7) = false from rfl, show fgt (4 : Fin 7) = false from rfl, show fgt (5 : Fin 7) = false from rfl,
    show fgt (6 : Fin 7) = true from rfl]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨%S, HS⟩, Hr⟩, Ho, ⟨%d0, H0⟩, ⟨%d1, H1⟩, ⟨%d2, H2⟩, ⟨%d3, H3⟩, ⟨%d4, H4⟩, ⟨%d5, H5⟩, ⟨%X8, H6⟩⟩
  rw [before0_0_of m (dats m 0 c) rfl (fun _ => rfl) t d0, before0_1_of m (dats m 0 c) rfl (fun _ => rfl) t d1,
    before0_2_of m (dats m 0 c) rfl (fun _ => rfl) t d2, before_3 m c t d3, before_4 m c t d4,
    before0_5_of m (dats m 0 c) rfl (fun _ => rfl) t d5]
  have h3 : win0_3.cut (grid0.coords t) (addBlk m c t) = iblk m c 3 t := win0_3.cut_fill _ _ _
  have h4 : win0_4.cut (grid0.coords t) (resBlk m c t) = iblk m c 4 t := win0_4.cut_fill _ _ _
  by_cases hi : first (grid0.coords t) = 1#1
  · iapply (body_first (F := F) c Set.univ (grid0.coords t) hi
      (stage0_0 (cfg0.slots t 0)) _ (stage0_1 (cfg0.slots t 1)) _ (stage0_2 (cfg0.slots t 2)) _ (stage0_3 (cfg0.slots t 3)) _
      (stage0_4 (cfg0.slots t 4)) _ (stage0_5 (cfg0.slots t 5)) _ (stage0_6 (cfg0.slots t 6)) _ (Memref.whole cc0_scratch0) (Memref.isWhole_whole _)
      (iblk m c 0 t) (iblk m c 1 t) (iblk m c 2 t) (win0_3.fill (grid0.coords t) d3 (iblk m c 3 t))
      (win0_4.fill (grid0.coords t) d4 (iblk m c 4 t)) (iblk m c 5 t) X8 S _)
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      rw [owns_whole_eq]; iexists S; isplitr; · ipureintro; rfl
      iexact HS
    iintro %S' - ⟨H0, H1, H2, H3, H4, H5, H6, HS⟩
    isplitl [HS Hr]
    · isplitl [HS]
      · iapply (scratch_out c S'); iexact HS
      · iexact Hr
    isplitl [Ho]; · iexact Ho
    isplitl [H0]; · iexact H0
    isplitl [H1]; · iexact H1
    isplitl [H2]; · iexact H2
    isplitl [H3]
    · iexists d3
      change _ ⊢ owns (c : Thread nD τ) (stage0_3 (cfg0.slots t 3)) fullShare (win0_3.fill (grid0.coords t) d3 (win0_3.cut (grid0.coords t) (addBlk m c t)))
      rw [h3]; try iexact H3
    isplitl [H4]
    · iexists d4
      change _ ⊢ owns (c : Thread nD τ) (stage0_4 (cfg0.slots t 4)) fullShare (win0_4.fill (grid0.coords t) d4 (win0_4.cut (grid0.coords t) (resBlk m c t)))
      rw [h4]; try iexact H4
    isplitl [H5]; · iexact H5
    iexists _; iexact H6
  · iapply (body_rest (F := F) c Set.univ (grid0.coords t) hi
      (stage0_0 (cfg0.slots t 0)) _ (stage0_1 (cfg0.slots t 1)) _ (stage0_2 (cfg0.slots t 2)) _ (stage0_3 (cfg0.slots t 3)) _
      (stage0_4 (cfg0.slots t 4)) _ (stage0_5 (cfg0.slots t 5)) _ (stage0_6 (cfg0.slots t 6)) _ (Memref.whole cc0_scratch0) (Memref.isWhole_whole _)
      (iblk m c 0 t) (iblk m c 1 t) (iblk m c 2 t) (win0_3.fill (grid0.coords t) d3 (iblk m c 3 t))
      (win0_4.fill (grid0.coords t) d4 (iblk m c 4 t)) (iblk m c 5 t) X8 S _)
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      rw [owns_whole_eq]; iexists S; isplitr; · ipureintro; rfl
      iexact HS
    iintro ⟨H0, H1, H2, H3, H4, H5, H6, HS⟩
    isplitl [HS Hr]
    · isplitl [HS]
      · iapply (scratch_out c S); iexact HS
      · iexact Hr
    isplitl [Ho]; · iexact Ho
    isplitl [H0]; · iexact H0
    isplitl [H1]; · iexact H1
    isplitl [H2]; · iexact H2
    isplitl [H3]
    · iexists d3
      change _ ⊢ owns (c : Thread nD τ) (stage0_3 (cfg0.slots t 3)) fullShare (win0_3.fill (grid0.coords t) d3 (win0_3.cut (grid0.coords t) (addBlk m c t)))
      rw [h3]; try iexact H3
    isplitl [H4]
    · iexists d4
      change _ ⊢ owns (c : Thread nD τ) (stage0_4 (cfg0.slots t 4)) fullShare (win0_4.fill (grid0.coords t) d4 (win0_4.cut (grid0.coords t) (resBlk m c t)))
      rw [h4]; try iexact H4
    isplitl [H5]; · iexact H5
    iexists _; iexact H6

/-- The buffers the host writes after the kernel: the result's. -/
def T : Finset (Ref sig .tc) := {main_v5}

/-- The host operations after the region write the result's buffer and nothing else. -/
theorem hT : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl
  rw [StableHlo.reshape_writes, Finset.mem_singleton] at hb
  have hb' : b = main_v5 := by
    by_contra hne
    exact StableHlo.devRef_ne_of_ne hne hb
  rw [hb']; exact Finset.mem_singleton_self _

set_option backward.isDefEq.respectTransparency.types false in
/-- THE FRAME: from any memory with zero counters, every weakly fair execution of the kernel terminates without fault, the
    argument arrays end unchanged and every semaphore counter ends at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_around_T_forget cfgs (dats m) 0 launch0 defs₀ Variants.none fgt T m ρ main (body_obligation m)
    (fun c => (dats m 0 c).share_full fun _ => rfl) (fun _ _ => rfl) (V0 m) [hostOps1] sfx_sub sfx_fresh sfx_keeps hT
    (hmain m Variants.none) (fun _ _ => rfl) (fun _ _ => rfl) _
    (fun r h => ⟨fun c =>
      ⟨((h.1 c).2 main_arg0 (by decide)).trans (V_main_arg0 m c),
       (h.1.arr_in c 1 rfl).trans (V_main_arg1 m c),
       (h.1.arr_in c 2 rfl).trans (V_main_arg2 m c),
       ((h.1 c).2 main_arg3 (by decide)).trans (V_main_arg3 m c),
       ((h.1 c).2 main_arg4 (by decide)).trans (V_main_arg4 m c),
       ((h.1 c).2 main_arg5 (by decide)).trans (V_main_arg5 m c)⟩, h.2⟩)

end Cert.KernelIdeal.Frame

end
-- ==== Proof.Bytes.lean ====
module

public import Idealize.ShloMosaic.Lib.BitcastFour

@[expose] public section

namespace Cert.Bytes

open Idealize.ShloMosaic

/-- Byte `q` of a 32-bit word. -/
def byteOf (w : BitVec 32) (q : Nat) : BitVec 8 := w.extractLsb' (8 * q) 8

/-- The byte of value `2 ^ d` if `b`, else zero. -/
def bitByte (b : Bool) (d : Nat) : BitVec 8 := bif b then 1#8 <<< d else 0#8

/-- The step from twice the code to the weight, on a word of four bytes: set every byte's top bit, subtract fifteen from
    every byte, flip every byte's top bit. -/
def unp (T : BitVec 32) : BitVec 32 := ((T ||| 2155905152#32) - 252645135#32) ^^^ 2155905152#32

/-- The weight of a code of sign bit `s` and extra bits `e0`, `e1`, `e2`: twice the code, less fifteen. -/
def weight (s e0 e1 e2 : Bool) : Int :=
  2 * (8 * s.toNat + (e0.toNat + 2 * e1.toNat + 4 * e2.toNat)) - 15

/-- A byte of the union of two words is the union of their bytes. -/
theorem byteOf_or (x y : BitVec 32) (q : Nat) : byteOf (x ||| y) q = byteOf x q ||| byteOf y q := by
  unfold byteOf; exact BitVec.extractLsb'_or ..
/-- A byte of the exclusive or of two words is the exclusive or of their bytes. -/
theorem byteOf_xor (x y : BitVec 32) (q : Nat) : byteOf (x ^^^ y) q = byteOf x q ^^^ byteOf y q := by
  unfold byteOf; exact BitVec.extractLsb'_xor ..

/-- Every byte of the word of top bits is 128. -/
theorem byteOf_tops (q : Nat) (hq : q < 4) : byteOf 2155905152#32 q = 128#8 := by
  have : q = 0 ∨ q = 1 ∨ q = 2 ∨ q = 3 := by omega
  rcases this with rfl | rfl | rfl | rfl <;> decide

/-- A byte with its top bit set is at least 128. -/
theorem top_le (y : BitVec 8) : 128 ≤ (y ||| 128#8).toNat := by
  have h : (y ||| 128#8).msb = true := by
    rw [BitVec.msb_or, show (128#8).msb = true from by decide, Bool.or_true]
  rw [BitVec.msb_eq_true_iff_two_mul_ge] at h
  omega

/-- A byte's value from its word's. -/
theorem byteOf_toNat (w : BitVec 32) (q : Nat) : (byteOf w q).toNat = w.toNat / 2 ^ (8 * q) % 256 := by
  unfold byteOf
  rw [BitVec.extractLsb'_toNat, Nat.shiftRight_eq_div_pow]

/-- Where every byte of a word is at least 128, subtracting fifteen from every byte borrows nowhere. -/
theorem byteOf_sub (X : BitVec 32) (h : ∀ q, q < 4 → 128 ≤ (byteOf X q).toNat) (q : Nat) (hq : q < 4) :
    byteOf (X - 252645135#32) q = byteOf X q - 15#8 := by
  have h0 := h 0 (by omega)
  have h1 := h 1 (by omega)
  have h2 := h 2 (by omega)
  have h3 := h 3 (by omega)
  have hX := X.isLt
  apply BitVec.eq_of_toNat_eq
  rw [BitVec.toNat_sub, byteOf_toNat, BitVec.toNat_sub]
  simp only [byteOf_toNat] at h0 h1 h2 h3 ⊢
  simp only [BitVec.toNat_ofNat]
  have : q = 0 ∨ q = 1 ∨ q = 2 ∨ q = 3 := by omega
  rcases this with rfl | rfl | rfl | rfl <;> norm_num at h0 h1 h2 h3 ⊢ <;> omega

/-- Byte `q` of the step's word is the step on byte `q`. -/
theorem byteOf_unp (T : BitVec 32) (q : Nat) (hq : q < 4) :
    byteOf (unp T) q = ((byteOf T q ||| 128#8) - 15#8) ^^^ 128#8 := by
  unfold unp
  rw [byteOf_xor, byteOf_tops q hq, byteOf_sub _ _ q hq, byteOf_or, byteOf_tops q hq]
  intro p hp
  rw [byteOf_or, byteOf_tops p hp]
  exact top_le _

/-- The weight out of a word whose byte `q` holds the sign bit at bit 4 and the extra bits at bits 1, 2 and 3. -/
theorem weight_byte (A B C D : BitVec 32) (s e0 e1 e2 : Bool) (q : Nat) (hq : q < 4)
    (hA : byteOf A q = bitByte s 4) (hB : byteOf B q = bitByte e0 1) (hC : byteOf C q = bitByte e1 2)
    (hD : byteOf D q = bitByte e2 3) :
    (byteOf (unp (((A ||| B) ||| C) ||| D)) q).toInt = weight s e0 e1 e2 := by
  rw [byteOf_unp _ q hq, byteOf_or, byteOf_or, byteOf_or, hA, hB, hC, hD]
  cases s <;> cases e0 <;> cases e1 <;> cases e2 <;> rfl

/-- Bit `i` of `bitByte b d`. -/
theorem bitByte_getLsbD (b : Bool) (d i : Nat) (hi : i < 8) : (bitByte b d).getLsbD i = (b && decide (i = d)) := by
  unfold bitByte
  cases b
  · simp
  · simp only [cond_true, BitVec.getLsbD_shiftLeft, Bool.true_and]
    by_cases h : i = d
    · subst h; simp [hi]
    · by_cases h' : i < d
      · simp [h, h']
      · have : i - d ≠ 0 := by omega
        simp [h, h', BitVec.getLsbD_one, this]

/-- Bit `i` of byte `q` is the word's bit `8 q + i`. -/
theorem byteOf_getLsbD (w : BitVec 32) (q i : Nat) (hi : i < 8) : (byteOf w q).getLsbD i = w.getLsbD (8 * q + i) := by
  unfold byteOf; rw [BitVec.getLsbD_extractLsb']; simp [hi]

/-- Masked to bit `d` of every byte, a word's byte is the byte of its bit `d`. -/
theorem byteOf_mask (w M : BitVec 32) (d : Nat) (hM : ∀ j, j < 32 → M.getLsbD j = decide (j % 8 = d)) (q : Nat) (hq : q < 4)
    (b : Bool) (hb : w.getLsbD (8 * q + d) = b) (hd : d < 8) : byteOf (w &&& M) q = bitByte b d := by
  apply BitVec.eq_of_getLsbD_eq
  intro i hi
  rw [byteOf_getLsbD _ _ _ hi, bitByte_getLsbD _ _ _ hi, BitVec.getLsbD_and, hM _ (by omega)]
  have : (8 * q + i) % 8 = i := by omega
  rw [this]
  by_cases h : i = d
  · subst h; rw [hb]
  · simp [h]

end Cert.Bytes

end
-- ==== Proof.KernelIdealPlanes.lean ====
module

public import proofs.«01_k».proof.Proof.KernelIdealBody
public import proofs.«01_k».proof.Proof.Bytes
public import Idealize.ShloMosaic.Lib.ValueLayout
public import Idealize.ShloMosaic.Lib.Pipeline.ValueKit
public import Idealize.ShloMosaic.Lib.IdealHost

@[expose] public section

set_option maxRecDepth 16384

noncomputable section

namespace Cert.KernelIdeal.Planes

open Cert.KernelIdeal Cert.KernelIdeal.Gen Cert.KernelIdeal.Body Cert.Bytes
open Idealize.ShloMosaic hiding ix2 ix3
open Idealize.ShloMosaic.ValueIdx

/-- The packed row of byte row `p`: four byte rows to a word row. -/
def wrow (p : Fin 128) : Fin 32 := ⟨p.val / 4, by omega⟩

/-- Words read back as bytes: row `p` is byte `p % 4` of word row `p / 4`. -/
theorem bitcast_bytes (W : IVec S32x5000 32) (h : S32x5000.Bitcasts 32 S128x5000 8) (p : Fin 128) (l : Fin 5000) :
    bitcast S128x5000 8 W h (ix2 p l) = byteOf (W (ix2 (wrow p) l)) (p.val % 4) := by
  apply BitVec.eq_of_getLsbD_eq
  intro i hi
  rw [bitcast_getLsbD W h _ i hi (by decide), byteOf_getLsbD _ _ _ hi]
  have hr : S128x5000.row (ix2 p l) = p.val := rfl
  have e1 : (S128x5000.row (ix2 p l) * 8 + i) / 32 = p.val / 4 := by rw [hr]; omega
  have e2 : (S128x5000.row (ix2 p l) * 8 + i) % 32 = 8 * (p.val % 4) + i := by rw [hr]; omega
  have hlt : ∀ a : Fin S32x5000.rank, a.val + 2 = S32x5000.rank → p.val / 4 < S32x5000.size a := by
    intro a ha
    have : a = ⟨0, Nat.zero_lt_two⟩ := Fin.ext (by have h2 : S32x5000.rank = 2 := rfl; have h3 : a.val + 2 = 2 := ha; show a.val = 0; omega)
    subst this
    show p.val / 4 < 32
    omega
  rw [h.srcIdx_congr _ e1 _ hlt, e2]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

/-- Bytes read as words: bit `j` of the byte of row `p` is the word's bit `8 (p % 4) + j`. -/
theorem word_bit (x : IVec S128x5000 8) (h : S128x5000.Bitcasts 8 S32x5000 32) (p : Fin 128) (l : Fin 5000) (j : Nat) (hj : j < 8) :
    (bitcast S32x5000 32 x h (ix2 (wrow p) l)).getLsbD (8 * (p.val % 4) + j) = (x (ix2 p l)).getLsbD j := by
  rw [bitcast_8_32_getLsbD_ix2 x h (wrow p) l (8 * (p.val % 4) + j) (by omega) p (by show p.val = 4 * (p.val / 4) + _; omega)]
  congr 1; omega

/-- A plane's bit moved up by `n` and masked. -/
theorem op_shl (x : IVec S128x5000 8) (h : S128x5000.Bitcasts 8 S32x5000 32) (n src d : Nat) (M : BitVec 32) (hn : src + n = d) (hd : d < 8)
    (hM : ∀ j, j < 32 → M.getLsbD j = decide (j % 8 = d)) (p : Fin 128) (l : Fin 5000) :
    byteOf (andi (shli (bitcast S32x5000 32 x h) (broadcast S32x5000 (BitVec.ofNat 32 n))) (broadcast S32x5000 M) (ix2 (wrow p) l)) (p.val % 4)
      = bitByte ((x (ix2 p l)).getLsbD src) d := by
  have hs : (BitVec.ofNat 32 n).toNat = n := by rw [BitVec.toNat_ofNat]; omega
  show byteOf (IntOp.shli .vector (bitcast S32x5000 32 x h (ix2 (wrow p) l)) (BitVec.ofNat 32 n) &&& M) _ = _
  unfold IntOp.shli
  rw [if_pos (by rw [hs]; omega)]
  refine byteOf_mask _ M d hM _ (by omega) _ ?_ hd
  rw [BitVec.shiftLeft_eq', BitVec.getLsbD_shiftLeft, hs, ← word_bit x h p l src (by omega),
    show 8 * (p.val % 4) + d - n = 8 * (p.val % 4) + src by omega]
  have h1 : 8 * (p.val % 4) + d < 32 := by omega
  have h2 : ¬ 8 * (p.val % 4) + d < n := by omega
  simp [h1, h2]

/-- A plane's bit moved down by `n` and masked. -/
theorem op_shr (x : IVec S128x5000 8) (h : S128x5000.Bitcasts 8 S32x5000 32) (n src d : Nat) (M : BitVec 32) (hn : src = d + n) (hd : src < 8)
    (hM : ∀ j, j < 32 → M.getLsbD j = decide (j % 8 = d)) (p : Fin 128) (l : Fin 5000) :
    byteOf (andi (shrui (bitcast S32x5000 32 x h) (broadcast S32x5000 (BitVec.ofNat 32 n))) (broadcast S32x5000 M) (ix2 (wrow p) l)) (p.val % 4)
      = bitByte ((x (ix2 p l)).getLsbD src) d := by
  have hs : (BitVec.ofNat 32 n).toNat = n := by rw [BitVec.toNat_ofNat]; omega
  show byteOf (IntOp.shrui .vector (bitcast S32x5000 32 x h (ix2 (wrow p) l)) (BitVec.ofNat 32 n) &&& M) _ = _
  unfold IntOp.shrui
  rw [if_pos (by rw [hs]; omega)]
  refine byteOf_mask _ M d hM _ (by omega) _ ?_ (by omega)
  rw [BitVec.ushiftRight_eq', BitVec.getLsbD_ushiftRight, hs, ← word_bit x h p l src (by omega),
    show n + (8 * (p.val % 4) + d) = 8 * (p.val % 4) + src by omega]

/-- A plane's bit masked where it stands. -/
theorem op_and (x : IVec S128x5000 8) (h : S128x5000.Bitcasts 8 S32x5000 32) (d : Nat) (M : BitVec 32) (hd : d < 8)
    (hM : ∀ j, j < 32 → M.getLsbD j = decide (j % 8 = d)) (p : Fin 128) (l : Fin 5000) :
    byteOf (andi (bitcast S32x5000 32 x h) (broadcast S32x5000 M) (ix2 (wrow p) l)) (p.val % 4)
      = bitByte ((x (ix2 p l)).getLsbD d) d := by
  show byteOf (bitcast S32x5000 32 x h (ix2 (wrow p) l) &&& M) _ = _
  exact byteOf_mask _ M d hM _ (by omega) _ (word_bit x h p l d hd) hd

/-- The mask of the sign bits keeps bit 4 of every byte. -/
theorem mask4 : ∀ j, j < 32 → (269488144#32).getLsbD j = decide (j % 8 = 4) := by decide
/-- The mask of the first extra bits keeps bit 1 of every byte. -/
theorem mask1 : ∀ j, j < 32 → (33686018#32).getLsbD j = decide (j % 8 = 1) := by decide
/-- The mask of the second extra bits keeps bit 2 of every byte. -/
theorem mask2 : ∀ j, j < 32 → (67372036#32).getLsbD j = decide (j % 8 = 2) := by decide
/-- The mask of the third extra bits keeps bit 3 of every byte. -/
theorem mask3 : ∀ j, j < 32 → (134744072#32).getLsbD j = decide (j % 8 = 3) := by decide

/-- The weight of vector `5000 k + l` in dimension `p`, off the packed planes. -/
def wt (X3 : IVec S128x5000 8) (X4 : IVec S3x128x5000 8) (k : Nat) (p : Fin 128) (l : Fin 5000) : Int :=
  weight ((X3 (ix2 p l)).getLsbD k) ((X4 (ix3 (0 : Fin 3) p l)).getLsbD k) ((X4 (ix3 (1 : Fin 3) p l)).getLsbD k)
    ((X4 (ix3 (2 : Fin 3) p l)).getLsbD k)

/-- The sign plane as loaded is the sign plane. -/
theorem ldS_eq (X3 : Vec Ideal S128x5000 .i8) : ldS X3 = X3 := View.ld_unit_zero hz2 _ X3

/-- An extra plane as loaded, its unit axis dropped. -/
theorem ldE0_apply (X4 : Vec Ideal S3x128x5000 .i8) (h : S1x128x5000.ShapeCasts S128x5000) (p : Fin 128) (l : Fin 5000) :
    shapeCast S128x5000 (ldE0 X4) h (ix2 p l) = X4 (ix3 (0 : Fin 3) p l) := by
  rw [shapeCast_1ab_ab_apply]
  exact View.ld_unit_apply_of X4 _ _ _ _ _ fun a => match a with
    | ⟨0, _⟩ => rfl | ⟨1, _⟩ => (Nat.zero_add _).symm | ⟨2, _⟩ => (Nat.zero_add _).symm
/-- The second plane's load at an index. -/
theorem ldE1_apply (X4 : Vec Ideal S3x128x5000 .i8) (h : S1x128x5000.ShapeCasts S128x5000) (p : Fin 128) (l : Fin 5000) :
    shapeCast S128x5000 (ldE1 X4) h (ix2 p l) = X4 (ix3 (1 : Fin 3) p l) := by
  rw [shapeCast_1ab_ab_apply]
  exact View.ld_unit_apply_of X4 _ _ _ _ _ fun a => match a with
    | ⟨0, _⟩ => rfl | ⟨1, _⟩ => (Nat.zero_add _).symm | ⟨2, _⟩ => (Nat.zero_add _).symm
/-- The third plane's load at an index. -/
theorem ldE2_apply (X4 : Vec Ideal S3x128x5000 .i8) (h : S1x128x5000.ShapeCasts S128x5000) (p : Fin 128) (l : Fin 5000) :
    shapeCast S128x5000 (ldE2 X4) h (ix2 p l) = X4 (ix3 (2 : Fin 3) p l) := by
  rw [shapeCast_1ab_ab_apply]
  exact View.ld_unit_apply_of X4 _ _ _ _ _ fun a => match a with
    | ⟨0, _⟩ => rfl | ⟨1, _⟩ => (Nat.zero_add _).symm | ⟨2, _⟩ => (Nat.zero_add _).symm

/-- One plane out of its four masked words. -/
theorem plane_of (W A B C D : IVec S32x5000 32) (s e0 e1 e2 : Bool) (p : Fin 128) (l : Fin 5000)
    (h : S32x5000.Bitcasts 32 S128x5000 8) (h' : S128x5000.ShapeCasts S128x5000)
    (hW : W = fun y => unp (((A y ||| B y) ||| C y) ||| D y))
    (hA : byteOf (A (ix2 (wrow p) l)) (p.val % 4) = bitByte s 4) (hB : byteOf (B (ix2 (wrow p) l)) (p.val % 4) = bitByte e0 1)
    (hC : byteOf (C (ix2 (wrow p) l)) (p.val % 4) = bitByte e1 2) (hD : byteOf (D (ix2 (wrow p) l)) (p.val % 4) = bitByte e2 3) :
    shapeCast S128x5000 (sitofp .bf16 (bitcast S128x5000 8 W h) : FVec Ideal S128x5000 .bf16) h' (ix2 p l)
      = ((weight s e0 e1 e2 : ℝ) : EReal) := by
  rw [shapeCast_self]
  show (((bitcast S128x5000 8 W h (ix2 p l)).toInt : ℝ) : EReal) = _
  rw [bitcast_bytes, hW, weight_byte _ _ _ _ s e0 e1 e2 _ (by omega) hA hB hC hD]

/-- Bit plane 0 at a weight. -/
theorem plane0_apply (X3 : Vec Ideal S128x5000 .i8) (X4 : Vec Ideal S3x128x5000 .i8) (p : Fin 128) (l : Fin 5000) :
    plane0 X3 X4 (ix2 p l) = ((wt X3 X4 0 p l : ℝ) : EReal) := by
  unfold plane0 k0_pay4 k0_pay3
  rw [ldS_eq]
  unfold wt
  rw [← ldE0_apply X4 shapeCasts_S1x128x5000_S128x5000, ← ldE1_apply X4 shapeCasts_S1x128x5000_S128x5000,
    ← ldE2_apply X4 shapeCasts_S1x128x5000_S128x5000]
  exact plane_of _ _ _ _ _ _ _ _ _ p l _ _ rfl
    (op_shl X3 _ 4 0 4 _ rfl (by decide) mask4 p l) (op_shl _ _ 1 0 1 _ rfl (by decide) mask1 p l)
    (op_shl _ _ 2 0 2 _ rfl (by decide) mask2 p l) (op_shl _ _ 3 0 3 _ rfl (by decide) mask3 p l)

/-- Bit plane 1 at a weight. -/
theorem plane1_apply (X3 : Vec Ideal S128x5000 .i8) (X4 : Vec Ideal S3x128x5000 .i8) (p : Fin 128) (l : Fin 5000) :
    plane1 X3 X4 (ix2 p l) = ((wt X3 X4 1 p l : ℝ) : EReal) := by
  unfold plane1 k0_pay7 k0_pay5 k0_pay6
  rw [ldS_eq]
  unfold wt
  rw [← ldE0_apply X4 shapeCasts_S1x128x5000_S128x5000, ← ldE1_apply X4 shapeCasts_S1x128x5000_S128x5000,
    ← ldE2_apply X4 shapeCasts_S1x128x5000_S128x5000]
  exact plane_of _ _ _ _ _ _ _ _ _ p l _ _ rfl
    (op_shl X3 _ 3 1 4 _ rfl (by decide) mask4 p l) (op_and _ _ 1 _ (by decide) mask1 p l)
    (op_shl _ _ 1 1 2 _ rfl (by decide) mask2 p l) (op_shl _ _ 2 1 3 _ rfl (by decide) mask3 p l)

/-- Bit plane 2 at a weight. -/
theorem plane2_apply (X3 : Vec Ideal S128x5000 .i8) (X4 : Vec Ideal S3x128x5000 .i8) (p : Fin 128) (l : Fin 5000) :
    plane2 X3 X4 (ix2 p l) = ((wt X3 X4 2 p l : ℝ) : EReal) := by
  unfold plane2 k0_pay10 k0_pay8 k0_pay9
  rw [ldS_eq]
  unfold wt
  rw [← ldE0_apply X4 shapeCasts_S1x128x5000_S128x5000, ← ldE1_apply X4 shapeCasts_S1x128x5000_S128x5000,
    ← ldE2_apply X4 shapeCasts_S1x128x5000_S128x5000]
  exact plane_of _ _ _ _ _ _ _ _ _ p l _ _ rfl
    (op_shl X3 _ 2 2 4 _ rfl (by decide) mask4 p l) (op_shr _ _ 1 2 1 _ rfl (by decide) mask1 p l)
    (op_and _ _ 2 _ (by decide) mask2 p l) (op_shl _ _ 1 2 3 _ rfl (by decide) mask3 p l)

/-- Bit plane 3 at a weight. -/
theorem plane3_apply (X3 : Vec Ideal S128x5000 .i8) (X4 : Vec Ideal S3x128x5000 .i8) (p : Fin 128) (l : Fin 5000) :
    plane3 X3 X4 (ix2 p l) = ((wt X3 X4 3 p l : ℝ) : EReal) := by
  unfold plane3 k0_pay13 k0_pay11 k0_pay12
  rw [ldS_eq]
  unfold wt
  rw [← ldE0_apply X4 shapeCasts_S1x128x5000_S128x5000, ← ldE1_apply X4 shapeCasts_S1x128x5000_S128x5000,
    ← ldE2_apply X4 shapeCasts_S1x128x5000_S128x5000]
  exact plane_of _ _ _ _ _ _ _ _ _ p l _ _ rfl
    (op_shl X3 _ 1 3 4 _ rfl (by decide) mask4 p l) (op_shr _ _ 2 3 1 _ rfl (by decide) mask1 p l)
    (op_shr _ _ 1 3 2 _ rfl (by decide) mask2 p l) (op_and _ _ 3 _ (by decide) mask3 p l)

/-- Bit plane 4 at a weight. -/
theorem plane4_apply (X3 : Vec Ideal S128x5000 .i8) (X4 : Vec Ideal S3x128x5000 .i8) (p : Fin 128) (l : Fin 5000) :
    plane4 X3 X4 (ix2 p l) = ((wt X3 X4 4 p l : ℝ) : EReal) := by
  unfold plane4 k0_pay16 k0_pay14 k0_pay15
  rw [ldS_eq]
  unfold wt
  rw [← ldE0_apply X4 shapeCasts_S1x128x5000_S128x5000, ← ldE1_apply X4 shapeCasts_S1x128x5000_S128x5000,
    ← ldE2_apply X4 shapeCasts_S1x128x5000_S128x5000]
  exact plane_of _ _ _ _ _ _ _ _ _ p l _ _ rfl
    (op_and X3 _ 4 _ (by decide) mask4 p l) (op_shr _ _ 3 4 1 _ rfl (by decide) mask1 p l)
    (op_shr _ _ 2 4 2 _ rfl (by decide) mask2 p l) (op_shr _ _ 1 4 3 _ rfl (by decide) mask3 p l)

/-- Bit plane 5 at a weight. -/
theorem plane5_apply (X3 : Vec Ideal S128x5000 .i8) (X4 : Vec Ideal S3x128x5000 .i8) (p : Fin 128) (l : Fin 5000) :
    plane5 X3 X4 (ix2 p l) = ((wt X3 X4 5 p l : ℝ) : EReal) := by
  unfold plane5 k0_pay19 k0_pay17 k0_pay18
  rw [ldS_eq]
  unfold wt
  rw [← ldE0_apply X4 shapeCasts_S1x128x5000_S128x5000, ← ldE1_apply X4 shapeCasts_S1x128x5000_S128x5000,
    ← ldE2_apply X4 shapeCasts_S1x128x5000_S128x5000]
  exact plane_of _ _ _ _ _ _ _ _ _ p l _ _ rfl
    (op_shr X3 _ 1 5 4 _ rfl (by decide) mask4 p l) (op_shr _ _ 4 5 1 _ rfl (by decide) mask1 p l)
    (op_shr _ _ 3 5 2 _ rfl (by decide) mask2 p l) (op_shr _ _ 2 5 3 _ rfl (by decide) mask3 p l)

/-- Bit plane 6 at a weight. -/
theorem plane6_apply (X3 : Vec Ideal S128x5000 .i8) (X4 : Vec Ideal S3x128x5000 .i8) (p : Fin 128) (l : Fin 5000) :
    plane6 X3 X4 (ix2 p l) = ((wt X3 X4 6 p l : ℝ) : EReal) := by
  unfold plane6 k0_pay21 k0_pay20
  rw [ldS_eq]
  unfold wt
  rw [← ldE0_apply X4 shapeCasts_S1x128x5000_S128x5000, ← ldE1_apply X4 shapeCasts_S1x128x5000_S128x5000,
    ← ldE2_apply X4 shapeCasts_S1x128x5000_S128x5000]
  exact plane_of _ _ _ _ _ _ _ _ _ p l _ _ rfl
    (op_shr X3 _ 2 6 4 _ rfl (by decide) mask4 p l) (op_shr _ _ 5 6 1 _ rfl (by decide) mask1 p l)
    (op_shr _ _ 4 6 2 _ rfl (by decide) mask2 p l) (op_shr _ _ 3 6 3 _ rfl (by decide) mask3 p l)

/-- Bit plane 7 at a weight. -/
theorem plane7_apply (X3 : Vec Ideal S128x5000 .i8) (X4 : Vec Ideal S3x128x5000 .i8) (p : Fin 128) (l : Fin 5000) :
    plane7 X3 X4 (ix2 p l) = ((wt X3 X4 7 p l : ℝ) : EReal) := by
  unfold plane7 k0_pay1 k0_pay22 k0_pay23
  rw [ldS_eq]
  unfold wt
  rw [← ldE0_apply X4 shapeCasts_S1x128x5000_S128x5000, ← ldE1_apply X4 shapeCasts_S1x128x5000_S128x5000,
    ← ldE2_apply X4 shapeCasts_S1x128x5000_S128x5000]
  exact plane_of _ _ _ _ _ _ _ _ _ p l _ _ rfl
    (op_shr X3 _ 3 7 4 _ rfl (by decide) mask4 p l) (op_shr _ _ 6 7 1 _ rfl (by decide) mask1 p l)
    (op_shr _ _ 5 7 2 _ rfl (by decide) mask2 p l) (op_shr _ _ 4 7 3 _ rfl (by decide) mask3 p l)

/-- The unpacked weights as one matrix: column `n` is vector `n`, its bits in plane `n / 5000` at column `n % 5000`. -/
def wmat (X3 : IVec S128x5000 8) (X4 : IVec S3x128x5000 8) (p : Fin 128) (n : Nat) : EReal :=
  ((wt X3 X4 (n / 5000) p ⟨n % 5000, Nat.mod_lt _ (by decide)⟩ : ℝ) : EReal)

/-- A plane stored at column `5000 k` agrees with the matrix. -/
theorem piece_eq (X3 : Vec Ideal S128x5000 .i8) (X4 : Vec Ideal S3x128x5000 .i8) (k o : Nat) (ho : o = 5000 * k) (P : FVec Ideal S128x5000 .bf16)
    (hP : ∀ p l, P (ix2 p l) = ((wt X3 X4 k p l : ℝ) : EReal))
    (inb : ∀ a, (![0, o] : Fin S128x40960.rank → Nat) a + S128x5000.size a ≤ S128x40960.size a)
    (x : (Rect.unit (s := S128x40960) ![0, o] S128x5000.size inb).shape.Idx) :
    P x = (fun y : S128x40960.Idx => wmat X3 X4 (y 0) (y 1).val) ((Rect.unit (s := S128x40960) ![0, o] S128x5000.size inb).emb x) := by
  have hx : (x : S128x5000.Idx) = ix2 (x 0) (x 1) := funext fun a => match a with | ⟨0, _⟩ => rfl | ⟨1, _⟩ => rfl
  have h0 : (((Rect.unit (s := S128x40960) ![0, o] S128x5000.size inb).emb x) 0) = (x 0) :=
    Fin.ext (by show 0 + 1 * (x 0).val = (x 0).val; omega)
  have h1 : (((Rect.unit (s := S128x40960) ![0, o] S128x5000.size inb).emb x) 1).val = 5000 * k + (x 1).val := by
    show o + 1 * (x 1).val = _; omega
  have hl : (x 1).val < 5000 := (x 1).isLt
  refine (congrArg P hx).trans ((hP _ _).trans ?_)
  show _ = wmat X3 X4 _ _
  rw [h0, h1]
  have hd : (5000 * k + (x 1).val) / 5000 = k := by omega
  have hm : (⟨(5000 * k + (x 1).val) % 5000, Nat.mod_lt _ (by decide)⟩ : Fin 5000) = x 1 := Fin.ext (by show (5000 * k + (x 1).val) % 5000 = (x 1).val; omega)
  unfold wmat
  rw [hd, hm]

/-- A column of the first 40000 is written by the store of its plane. -/
theorem mem_piece (k o : Nat) (ho : o = 5000 * k) (inb : ∀ a, (![0, o] : Fin S128x40960.rank → Nat) a + S128x5000.size a ≤ S128x40960.size a)
    (y : S128x40960.Idx) (hk : (y 1).val / 5000 = k) : y ∈ (Rect.unit (s := S128x40960) ![0, o] S128x5000.size inb).set := by
  rw [Rect.mem_set_unit]
  intro a
  match a with
  | ⟨0, _⟩ => exact ⟨Nat.zero_le _, by show (y 0).val < 0 + 128; have : (y 0).val < 128 := (y 0).isLt; omega⟩
  | ⟨1, _⟩ => exact ⟨by show o ≤ (y 1).val; omega, by show (y 1).val < o + 5000; omega⟩

/-- After the eight stores the first 40000 columns hold the weights. -/
theorem canon_pieces (X3 : Vec Ideal S128x5000 .i8) (X4 : Vec Ideal S3x128x5000 .i8) (S : Vec Ideal S128x40960 .bf16)
    (h : ∀ y, (∃ p ∈ pieces X3 X4, y ∈ p.1.set) → S y = View.canon (pieces X3 X4) y) (y : S128x40960.Idx) (hy : (y 1).val < 40000) :
    S y = wmat X3 X4 (y 0) (y 1).val := by
  have cover : ∃ p ∈ pieces X3 X4, y ∈ p.1.set := by
    have hk : (y 1).val / 5000 < 8 := by omega
    unfold pieces
    rcases Nat.lt_or_ge ((y 1).val / 5000) 1 with h | h
    · exact ⟨_, .tail _ (.tail _ (.tail _ (.tail _ (.tail _ (.tail _ (.tail _ (.head _))))))), mem_piece 0 0 rfl inb_S128x40960_S128x5000_0_0 y (by omega)⟩
    rcases Nat.lt_or_ge ((y 1).val / 5000) 2 with h | h
    · exact ⟨_, .tail _ (.tail _ (.tail _ (.tail _ (.tail _ (.tail _ (.head _)))))), mem_piece 1 5000 rfl inb_S128x40960_S128x5000_0_5000 y (by omega)⟩
    rcases Nat.lt_or_ge ((y 1).val / 5000) 3 with h | h
    · exact ⟨_, .tail _ (.tail _ (.tail _ (.tail _ (.tail _ (.head _))))), mem_piece 2 10000 rfl inb_S128x40960_S128x5000_0_10000 y (by omega)⟩
    rcases Nat.lt_or_ge ((y 1).val / 5000) 4 with h | h
    · exact ⟨_, .tail _ (.tail _ (.tail _ (.tail _ (.head _)))), mem_piece 3 15000 rfl inb_S128x40960_S128x5000_0_15000 y (by omega)⟩
    rcases Nat.lt_or_ge ((y 1).val / 5000) 5 with h | h
    · exact ⟨_, .tail _ (.tail _ (.tail _ (.head _))), mem_piece 4 20000 rfl inb_S128x40960_S128x5000_0_20000 y (by omega)⟩
    rcases Nat.lt_or_ge ((y 1).val / 5000) 6 with h | h
    · exact ⟨_, .tail _ (.tail _ (.head _)), mem_piece 5 25000 rfl inb_S128x40960_S128x5000_0_25000 y (by omega)⟩
    rcases Nat.lt_or_ge ((y 1).val / 5000) 7 with h | h
    · exact ⟨_, .tail _ (.head _), mem_piece 6 30000 rfl inb_S128x40960_S128x5000_0_30000 y (by omega)⟩
    · exact ⟨_, .head _, mem_piece 7 35000 rfl inb_S128x40960_S128x5000_0_35000 y (by omega)⟩
  rw [h y cover]
  refine View.canon_apply_of_pieces (fun y : S128x40960.Idx => wmat X3 X4 (y 0) (y 1).val) _ ?_ y cover
  intro p hp x
  unfold pieces at hp
  simp only [List.mem_cons, List.not_mem_nil, or_false] at hp
  rcases hp with rfl | rfl | rfl | rfl | rfl | rfl | rfl | rfl
  · exact piece_eq X3 X4 7 35000 rfl _ (plane7_apply X3 X4) inb_S128x40960_S128x5000_0_35000 x
  · exact piece_eq X3 X4 6 30000 rfl _ (plane6_apply X3 X4) inb_S128x40960_S128x5000_0_30000 x
  · exact piece_eq X3 X4 5 25000 rfl _ (plane5_apply X3 X4) inb_S128x40960_S128x5000_0_25000 x
  · exact piece_eq X3 X4 4 20000 rfl _ (plane4_apply X3 X4) inb_S128x40960_S128x5000_0_20000 x
  · exact piece_eq X3 X4 3 15000 rfl _ (plane3_apply X3 X4) inb_S128x40960_S128x5000_0_15000 x
  · exact piece_eq X3 X4 2 10000 rfl _ (plane2_apply X3 X4) inb_S128x40960_S128x5000_0_10000 x
  · exact piece_eq X3 X4 1 5000 rfl _ (plane1_apply X3 X4) inb_S128x40960_S128x5000_0_5000 x
  · exact piece_eq X3 X4 0 0 rfl _ (plane0_apply X3 X4) inb_S128x40960_S128x5000_0_0 x

end Cert.KernelIdeal.Planes

end
-- ==== Proof.KernelIdealPoint.lean ====
module

public import proofs.«01_k».proof.Proof.KernelIdealFrame
public import proofs.«01_k».proof.Proof.KernelIdealPlanes
public import Idealize.ShloMosaic.Lib.Pointwise
public import Idealize.ShloMosaic.Lib.MatmulPlain
public import Idealize.ShloMosaic.Lib.ValueLayoutCasts

@[expose] public section

set_option maxRecDepth 16384

noncomputable section

namespace Cert.KernelIdeal.Point

open Cert.KernelIdeal Cert.KernelIdeal.Gen Cert.KernelIdeal.Body Cert.KernelIdeal.Planes
open Idealize.ShloMosaic

variable (m : (ℓ : Loc nD τ sig) → Buf (Elt Ideal) ℓ)

/-- One element of what the body stores: row `r`, column `n` of the tile. -/
theorem pay2_apply (X2 : Vec Ideal S256x128 .bf16) (W : Vec Ideal S128x5120 .bf16) (X5 : Vec Ideal S1x5120 .f32) (X7 : Vec Ideal S256x1 .f32)
    (X6 : Vec Ideal S1x5120 .f32) (r : Fin 256) (n : Fin 5120) :
    k0_pay2 X2 W X5 X7 X6 (ix2 r n) = X5 (ix2 0 n) + X7 (ix2 r 0)
      + Ideal.ofBits .f32 1056964608#32 * X6 (ix2 0 n) * ∑ k : Fin 128, X2 (ix2 r k) * W (ix2 k n) := by
  unfold k0_pay2
  pointwise

/-- The score of row `r` against vector `n` from the arrays the kernel is handed. -/
def scoreAt (x : S4096x128.Idx → EReal) (sg : IVec S128x5000 8) (ex : IVec S3x128x5000 8) (fa fr : S1x40000.Idx → EReal)
    (ga : S4096x1.Idx → EReal) (r : Fin 4096) (n : Fin 40000) : EReal :=
  fa (ix2 0 n) + ga (ix2 r 0) + Ideal.ofBits .f32 1056964608#32 * fr (ix2 0 n) * ∑ k : Fin 128, x (ix2 r k) * wmat sg ex k n.val

/-- The scores as the kernel's result array. -/
def scores (c : Dev nD) : S4096x40000.Idx → EReal := fun i =>
  scoreAt (V m c main_v0) (V m c main_arg1) (V m c main_arg2) (V m c main_v1) (V m c main_v2) (V m c main_v3) (i 0) (i 1)

/-- Each window's block index at a grid point: column tile `t / 16`, row tile `t % 16`. -/
theorem idx0 (t : Fin 128) : win0_0.index t = ![t.val % 16, 0] :=
  have h : ∀ t : Fin 128, (win0_0.index t (0 : Fin 2) : Nat) = t.val % 16 ∧ (win0_0.index t (1 : Fin 2) : Nat) = 0 := by decide +kernel
  funext fun a => match a with | ⟨0, _⟩ => (h t).1 | ⟨1, _⟩ => (h t).2
/-- The block of the sign bytes a point reads: always the whole. -/
theorem idx1 (t : Fin 128) : win0_1.index t = ![0, 0] :=
  have h : ∀ t : Fin 128, (win0_1.index t (0 : Fin 2) : Nat) = 0 ∧ (win0_1.index t (1 : Fin 2) : Nat) = 0 := by decide +kernel
  funext fun a => match a with | ⟨0, _⟩ => (h t).1 | ⟨1, _⟩ => (h t).2
/-- The block of the extra bytes a point reads: always the whole. -/
theorem idx2 (t : Fin 128) : win0_2.index t = ![0, 0, 0] :=
  have h : ∀ t : Fin 128, (win0_2.index t (0 : Fin 3) : Nat) = 0 ∧ (win0_2.index t (1 : Fin 3) : Nat) = 0 ∧ (win0_2.index t (2 : Fin 3) : Nat) = 0 := by decide +kernel
  funext fun a => match a with | ⟨0, _⟩ => (h t).1 | ⟨1, _⟩ => (h t).2.1 | ⟨2, _⟩ => (h t).2.2
/-- The block of `f_add` a point reads. -/
theorem idx3 (t : Fin 128) : win0_3.index t = ![0, t.val / 16] :=
  have h : ∀ t : Fin 128, (win0_3.index t (0 : Fin 2) : Nat) = 0 ∧ (win0_3.index t (1 : Fin 2) : Nat) = t.val / 16 := by decide +kernel
  funext fun a => match a with | ⟨0, _⟩ => (h t).1 | ⟨1, _⟩ => (h t).2
/-- The block of `f_rescale` a point reads. -/
theorem idx4 (t : Fin 128) : win0_4.index t = ![0, t.val / 16] :=
  have h : ∀ t : Fin 128, (win0_4.index t (0 : Fin 2) : Nat) = 0 ∧ (win0_4.index t (1 : Fin 2) : Nat) = t.val / 16 := by decide +kernel
  funext fun a => match a with | ⟨0, _⟩ => (h t).1 | ⟨1, _⟩ => (h t).2
/-- The block of `g_add` a point reads. -/
theorem idx5 (t : Fin 128) : win0_5.index t = ![t.val % 16, 0] :=
  have h : ∀ t : Fin 128, (win0_5.index t (0 : Fin 2) : Nat) = t.val % 16 ∧ (win0_5.index t (1 : Fin 2) : Nat) = 0 := by decide +kernel
  funext fun a => match a with | ⟨0, _⟩ => (h t).1 | ⟨1, _⟩ => (h t).2
/-- The block of the scores a point writes. -/
theorem idx6 (t : Fin 128) : win0_6.index t = ![t.val % 16, t.val / 16] :=
  have h : ∀ t : Fin 128, (win0_6.index t (0 : Fin 2) : Nat) = t.val % 16 ∧ (win0_6.index t (1 : Fin 2) : Nat) = t.val / 16 := by decide +kernel
  funext fun a => match a with | ⟨0, _⟩ => (h t).1 | ⟨1, _⟩ => (h t).2
/-- The column tile of the weights the body loads. -/
theorem off1 : ∀ t : Fin 128, k0_off1 (grid0.coords t) = ![0, 5120 * (t.val / 16)] := by decide +kernel
/-- The body's first-point test is the first point's. -/
theorem first_iff : ∀ t : Fin 128, first (grid0.coords t) = 1#1 ↔ t.val = 0 := by decide +kernel
/-- How many columns of a tile lie inside the array. -/
theorem xs6 : ∀ t : Fin 128, win0_6.xsize (grid0.coords t) 1 ≤ 40000 - 5120 * (t.val / 16) := by decide +kernel
/-- The part of `f_add`'s block inside the array is as wide as that of the scores. -/
theorem xs3 : ∀ t : Fin 128, win0_3.xsize (grid0.coords t) 1 = win0_6.xsize (grid0.coords t) 1 ∧ win0_3.xsize (grid0.coords t) 0 = 1 := by decide +kernel
/-- The part of `f_rescale`'s block inside the array is as wide as that of the scores. -/
theorem xs4 : ∀ t : Fin 128, win0_4.xsize (grid0.coords t) 1 = win0_6.xsize (grid0.coords t) 1 ∧ win0_4.xsize (grid0.coords t) 0 = 1 := by decide +kernel

/-- The sign plane's block is the plane. -/
theorem iblk1 (c : Dev nD) (t : Fin 128) : iblk m c 1 t = V m c main_arg1 := by
  funext y
  blk_ext [iblk, V, idx1 t]
/-- The extra planes' block is the planes. -/
theorem iblk2 (c : Dev nD) (t : Fin 128) : iblk m c 2 t = V m c main_arg2 := by
  funext y
  blk_ext [iblk, V, idx2 t]

/-- The `f_add` window's buffer inside the array is the array there, whatever lies past its end. -/
theorem fill3 (c : Dev nD) (t : Fin 128) (d : win0_3.block.Idx → EReal) (n : Fin 5120) (hn : n.val < win0_6.xsize (grid0.coords t) 1)
    (n' : Fin 40000) (e : n'.val = 5120 * (t.val / 16) + n.val) :
    (win0_3.fill (grid0.coords t) d (iblk m c 3 t) : S1x5120.Idx → EReal) (ix2 0 n) = V m c main_v1 (ix2 0 n') := by
  have hm : win0_3.moved (grid0.coords t) (ix2 0 n) = true := (win0_3.moved_iff _ _).mpr fun a => match a with
    | ⟨0, _⟩ => by show 0 < win0_3.xsize (grid0.coords t) 0; rw [(xs3 t).2]; exact Nat.one_pos
    | ⟨1, _⟩ => by show n.val < win0_3.xsize (grid0.coords t) 1; rw [(xs3 t).1]; exact hn
  unfold Pipeline.Window.fill
  rw [dif_pos hm]
  blk_ext [iblk, V, idx3 t]

/-- The `f_rescale` window's buffer likewise. -/
theorem fill4 (c : Dev nD) (t : Fin 128) (d : win0_4.block.Idx → EReal) (n : Fin 5120) (hn : n.val < win0_6.xsize (grid0.coords t) 1)
    (n' : Fin 40000) (e : n'.val = 5120 * (t.val / 16) + n.val) :
    (win0_4.fill (grid0.coords t) d (iblk m c 4 t) : S1x5120.Idx → EReal) (ix2 0 n) = V m c main_v2 (ix2 0 n') := by
  have hm : win0_4.moved (grid0.coords t) (ix2 0 n) = true := (win0_4.moved_iff _ _).mpr fun a => match a with
    | ⟨0, _⟩ => by show 0 < win0_4.xsize (grid0.coords t) 0; rw [(xs4 t).2]; exact Nat.one_pos
    | ⟨1, _⟩ => by show n.val < win0_4.xsize (grid0.coords t) 1; rw [(xs4 t).1]; exact hn
  unfold Pipeline.Window.fill
  rw [dif_pos hm]
  blk_ext [iblk, V, idx4 t]

/-- A tile's element is the score of its row and vector, once each operand is the array's there. -/
theorem pay2_score (X2 : Vec Ideal S256x128 .bf16) (W : Vec Ideal S128x5120 .bf16) (X5 : Vec Ideal S1x5120 .f32) (X7 : Vec Ideal S256x1 .f32)
    (X6 : Vec Ideal S1x5120 .f32) (r : Fin 256) (n : Fin 5120) (x : S4096x128.Idx → EReal) (sg : IVec S128x5000 8) (ex : IVec S3x128x5000 8)
    (fa fr : S1x40000.Idx → EReal) (ga : S4096x1.Idx → EReal) (r' : Fin 4096) (n' : Fin 40000)
    (h5 : X5 (ix2 0 n) = fa (ix2 0 n')) (h7 : X7 (ix2 r 0) = ga (ix2 r' 0)) (h6 : X6 (ix2 0 n) = fr (ix2 0 n'))
    (h2 : ∀ k : Fin 128, X2 (ix2 r k) = x (ix2 r' k)) (hW : ∀ k : Fin 128, W (ix2 k n) = wmat sg ex k n'.val) :
    k0_pay2 X2 W X5 X7 X6 (ix2 r n) = scoreAt x sg ex fa fr ga r' n' := by
  rw [pay2_apply, h5, h7, h6, Finset.sum_congr rfl fun k _ => by rw [h2, hW]]
  rfl

/-- The row block of `x` and of `g_add`. -/
theorem iblk0 (c : Dev nD) (t : Fin 128) (r : Fin 256) (r' : Fin 4096) (e : r'.val = 256 * (t.val % 16) + r.val) (k : Fin 128) :
    iblk m c 0 t (ix2 r k) = V m c main_v0 (ix2 r' k) := by
  blk_ext [iblk, V, idx0 t]
/-- A point's block of `g_add`, from the array. -/
theorem iblk5 (c : Dev nD) (t : Fin 128) (r : Fin 256) (r' : Fin 4096) (e : r'.val = 256 * (t.val % 16) + r.val) :
    iblk m c 5 t (ix2 r 0) = V m c main_v3 (ix2 r' 0) := by
  blk_ext [iblk, V, idx5 t]

/-- The loaded column tile of the weights, at a column that is a vector. -/
theorem ldW_apply (i : grid0.Coords) (o : Nat) (ho : k0_off1 i = ![0, o]) (S : Vec Ideal S128x40960 .bf16) (sg : IVec S128x5000 8) (ex : IVec S3x128x5000 8)
    (hS : ∀ z : S128x40960.Idx, (z 1).val < 40000 → S z = wmat sg ex (z 0) (z 1).val) (k : Fin 128) (n : Fin 5120)
    (n' : Fin 40000) (e : n'.val = o + n.val) : ldW i S (ix2 k n) = wmat sg ex k n'.val := by
  have h : ldW i S (ix2 k n) = S (ix2 k (⟨n'.val, by omega⟩ : Fin 40960)) :=
    View.ld_unit_apply_of S _ _ _ _ _ fun a => match a with
      | ⟨0, _⟩ => (Nat.zero_add k.val).symm.trans (congrArg (· + k.val) (congrFun ho 0).symm)
      | ⟨1, _⟩ => e.trans (congrArg (· + n.val) (congrFun ho 1).symm)
  rw [h]
  exact hS _ n'.isLt

/-- Where a tile's element lies in the result array. -/
theorem emb6 (t : Fin 128) (y : (win0_6.xblock (grid0.coords t)).Idx) :
    (((win0_6.blk t).view.emb y) 0).val = 256 * (t.val % 16) + (y 0).val
    ∧ (((win0_6.blk t).view.emb y) 1).val = 5120 * (t.val / 16) + (y 1).val := by
  constructor
  · blk_simp [idx6 t]
    omega
  · blk_simp [idx6 t]
    omega

/-- ONE POINT: given the unpacked weights in the first 40000 columns of the scratch, the body stores the scores of its tile,
    wherever the tile lies inside the array. -/
theorem point (c : Dev nD) (t : Fin 128) (S : Vec Ideal S128x40960 .bf16)
    (hS : ∀ z : S128x40960.Idx, (z 1).val < 40000 → S z = wmat (V m c main_arg1) (V m c main_arg2) (z 0) (z 1).val)
    (d3 : win0_3.block.Idx → EReal) (d4 : win0_4.block.Idx → EReal) (y : (win0_6.xblock (grid0.coords t)).Idx) :
    k0_pay2 (F := Ideal) (iblk m c 0 t) (ldW (grid0.coords t) S) (win0_3.fill (grid0.coords t) d3 (iblk m c 3 t)) (iblk m c 5 t)
        (win0_4.fill (grid0.coords t) d4 (iblk m c 4 t)) (win0_6.xinj (grid0.coords t) y)
      = scores m c ((win0_6.blk t).view.emb y) := by
  have hy0 : (y 0).val < 256 := (win0_6.xinj (grid0.coords t) y 0).isLt
  have hy1 : (y 1).val < 5120 := (win0_6.xinj (grid0.coords t) y 1).isLt
  have hx1 : (y 1).val < win0_6.xsize (grid0.coords t) 1 := (y 1).isLt
  have hy : win0_6.xinj (grid0.coords t) y = ix2 (⟨(y 0).val, hy0⟩ : Fin 256) (⟨(y 1).val, hy1⟩ : Fin 5120) :=
    funext fun a => match a with | ⟨0, _⟩ => rfl | ⟨1, _⟩ => rfl
  obtain ⟨e0, e1⟩ := emb6 t y
  refine (congrArg _ hy).trans ?_
  exact pay2_score _ _ _ _ _ ⟨(y 0).val, hy0⟩ ⟨(y 1).val, hy1⟩ (V m c main_v0) (V m c main_arg1) (V m c main_arg2) (V m c main_v1) (V m c main_v2)
    (V m c main_v3) (((win0_6.blk t).view.emb y) 0) (((win0_6.blk t).view.emb y) 1)
    (fill3 m c t d3 _ hx1 _ e1) (iblk5 m c t _ _ e0) (fill4 m c t d4 _ hx1 _ e1) (iblk0 m c t _ _ e0)
    (fun k => ldW_apply _ _ (off1 t) S _ _ hS k _ _ e1)

end Cert.KernelIdeal.Point

end
-- ==== Proof.KernelIdealValue.lean ====
module

public import proofs.«01_k».proof.Proof.KernelIdealPoint
public import Idealize.ShloMosaic.Lib.Claim

@[expose] public section

set_option maxRecDepth 16384

noncomputable section

namespace Cert.KernelIdeal.Value

open Cert.KernelIdeal Cert.KernelIdeal.Gen Cert.KernelIdeal.Body Cert.KernelIdeal.Planes Cert.KernelIdeal.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The scratch holds the unpacked weights in its first 40000 columns. -/
def Good (c : Dev nD) (S : Vec Ideal S128x40960 .bf16) : Prop :=
  ∀ z : S128x40960.Idx, (z 1).val < 40000 → S z = wmat (V m c main_arg1) (V m c main_arg2) (z 0) (z 1).val

/-- Before the first point nothing is known of the scratch; before any later one it holds the weights. -/
def PhiN (c : Dev nD) : Nat → sProp 𝕄
  | 0 => Pipeline.ΦA spec0 c
  | _ + 1 => iprop((∃ S : Vec Ideal S128x40960 .bf16, ⌜Good m c S⌝ ∗ owns (c : Thread nD τ) (Memref.whole cc0_scratch0) fullShare S)
      ∗ ∃ r, prngReg c r)

/-- What the body leaves of the scores in a tile's buffer: those inside the array. -/
def outBlk (c : Dev nD) (t : Fin cfg0.N) : S256x5120.Idx → EReal :=
  win0_6.fill (grid0.coords t) (fun _ => 0) (fun y => scores m c ((win0_6.blk t).view.emb y))

/-- The proof data of the value run. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Frame.addBlk m c t
    | ⟨4, _⟩ => Frame.resBlk m c t
    | ⟨5, _⟩ => iblk m c 5 t
    | ⟨6, _⟩ => outBlk m c t
  Φ t := PhiN m c t.val
  q _ := fullShare
  owed _ := 0

/-- What the body finds in the buffer of `f_add`. -/
theorem before_3 (c : Dev nD) (t : Fin cfg0.N) (d) :
    (dats m 0 c).before (3 : Fin 7) t d = win0_3.fill (grid0.coords t) d (iblk m c 3 t) :=
  (dats m 0 c).before_in_eq_fetched 3 rfl (fun _ => rfl)
    (fun t t' h => funext fun a => congrArg (fun n => Pipeline.Clip.of n (S1x5120.size a) (S1x40000.size a)) (congrFun h a))
    (fun t => win0_3.cut_fill _ _ _) t d
/-- What the body finds in the buffer of `f_rescale`. -/
theorem before_4 (c : Dev nD) (t : Fin cfg0.N) (d) :
    (dats m 0 c).before (4 : Fin 7) t d = win0_4.fill (grid0.coords t) d (iblk m c 4 t) :=
  (dats m 0 c).before_in_eq_fetched 4 rfl (fun _ => rfl)
    (fun t t' h => funext fun a => congrArg (fun n => Pipeline.Clip.of n (S1x5120.size a) (S1x40000.size a)) (congrFun h a))
    (fun t => win0_4.cut_fill _ _ _) t d

/-- A buffer whose part inside the array is the scores is what the write-back wants. -/
theorem out_eq (c : Dev nD) (t : Fin cfg0.N) (X : S256x5120.Idx → EReal)
    (h : ∀ y : (win0_6.xblock (grid0.coords t)).Idx, X (win0_6.xinj (grid0.coords t) y) = scores m c ((win0_6.blk t).view.emb y)) :
    win0_6.fill (grid0.coords t) X (win0_6.cut (grid0.coords t) (outBlk m c t)) = X := by
  have e : win0_6.cut (grid0.coords t) (outBlk m c t) = win0_6.cut (grid0.coords t) X :=
    (win0_6.cut_fill _ _ _).trans (funext fun y => (h y).symm)
  rw [e]
  exact win0_6.fill_cut _ _

/-- The eight planes of the first point make the scratch good. -/
theorem good_of_pieces (c : Dev nD) (t : Fin 128) (S : Vec Ideal S128x40960 .bf16)
    (h : ∀ y, (∃ p ∈ pieces (F := Ideal) (iblk m c 1 t) (iblk m c 2 t), y ∈ p.1.set) → S y = View.canon (pieces (F := Ideal) (iblk m c 1 t) (iblk m c 2 t)) y) :
    Good m c S := by
  rw [iblk1, iblk2] at h
  exact fun z hz => canon_pieces _ _ S h z hz

/-- What the body stores at point `t` off the scratch `S`, the clipped operands' tails `d3` and `d4`. -/
abbrev tile (c : Dev nD) (t : Fin cfg0.N) (S : Vec Ideal S128x40960 .bf16) (d3 : win0_3.block.Idx → EReal) (d4 : win0_4.block.Idx → EReal) :
    S256x5120.Idx → EReal :=
  k0_pay2 (F := Ideal) (iblk m c 0 t) (ldW (grid0.coords t) S) (win0_3.fill (grid0.coords t) d3 (iblk m c 3 t)) (iblk m c 5 t)
    (win0_4.fill (grid0.coords t) d4 (iblk m c 4 t))

/-- THE BODY at every point: the scratch stays good and the tile's part inside the array is the scores. -/
theorem body_obligation (c : Dev nD) : BodyObligationLoose (dats m 0 c) (defs₀ (F := Ideal)) Variants.none () Set.univ := fun t => by
  rw [bigSep_W0, bigSep_W0]
  dsimp only
  rw [show (dats m 0 c).Φ t.succ = PhiN m c (t.val + 1) from rfl,
    show (dats m 0 c).owesAt () t.succ = (dats m 0 c).owesAt () t.castSucc from rfl,
    show (dats m 0 c).Φ t.castSucc = PhiN m c t.val from rfl]
  have h3 : win0_3.cut (grid0.coords t) (Frame.addBlk m c t) = iblk m c 3 t := win0_3.cut_fill _ _ _
  have h4 : win0_4.cut (grid0.coords t) (Frame.resBlk m c t) = iblk m c 4 t := win0_4.cut_fill _ _ _
  by_cases hi : first (grid0.coords t) = 1#1
  · have ht : t.val = 0 := (first_iff t).mp hi
    rw [ht]
    unfold PhiN
    unfold Pipeline.ΦA
    rw [scopedRest0_eq]
    iintro ⟨⟨⟨%S, HS⟩, Hr⟩, Ho, ⟨%d0, H0⟩, ⟨%d1, H1⟩, ⟨%d2, H2⟩, ⟨%d3, H3⟩, ⟨%d4, H4⟩, ⟨%d5, H5⟩, ⟨%d6, H6⟩⟩
    rw [before0_0_of m (dats m 0 c) rfl (fun _ => rfl) t d0, before0_1_of m (dats m 0 c) rfl (fun _ => rfl) t d1,
      before0_2_of m (dats m 0 c) rfl (fun _ => rfl) t d2, before_3 m c t d3, before_4 m c t d4,
      before0_5_of m (dats m 0 c) rfl (fun _ => rfl) t d5]
    iapply (body_first (F := Ideal) c Set.univ (grid0.coords t) hi
      (stage0_0 (cfg0.slots t 0)) _ (stage0_1 (cfg0.slots t 1)) _ (stage0_2 (cfg0.slots t 2)) _ (stage0_3 (cfg0.slots t 3)) _
      (stage0_4 (cfg0.slots t 4)) _ (stage0_5 (cfg0.slots t 5)) _ (stage0_6 (cfg0.slots t 6)) _ (Memref.whole cc0_scratch0) (Memref.isWhole_whole _)
      (iblk m c 0 t) (iblk m c 1 t) (iblk m c 2 t) (win0_3.fill (grid0.coords t) d3 (iblk m c 3 t))
      (win0_4.fill (grid0.coords t) d4 (iblk m c 4 t)) (iblk m c 5 t) ((dats m 0 c).before (6 : Fin 7) t d6) S _)
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      rw [owns_whole_eq]; iexists S; isplitr; · ipureintro; rfl
      iexact HS
    iintro %S' %hS' ⟨H0, H1, H2, H3, H4, H5, H6, HS⟩
    have hg : Good m c S' := good_of_pieces m c t S' hS'
    isplitl [HS Hr]
    · isplitl [HS]
      · iexists S'; isplitr; · ipureintro; exact hg
        iexact HS
      · iexact Hr
    isplitl [Ho]; · iexact Ho
    isplitl [H0]; · iexact H0
    isplitl [H1]; · iexact H1
    isplitl [H2]; · iexact H2
    isplitl [H3]
    · iexists d3
      change _ ⊢ owns (c : Thread nD τ) (stage0_3 (cfg0.slots t 3)) fullShare (win0_3.fill (grid0.coords t) d3 (win0_3.cut (grid0.coords t) (Frame.addBlk m c t)))
      rw [h3]; try iexact H3
    isplitl [H4]
    · iexists d4
      change _ ⊢ owns (c : Thread nD τ) (stage0_4 (cfg0.slots t 4)) fullShare (win0_4.fill (grid0.coords t) d4 (win0_4.cut (grid0.coords t) (Frame.resBlk m c t)))
      rw [h4]; try iexact H4
    isplitl [H5]; · iexact H5
    iexists (tile m c t S' d3 d4)
    change _ ⊢ (owns (Val := Elt Ideal) (c : Thread nD τ) (stage0_6 (cfg0.slots t 6)) fullShare (win0_6.fill (α := Elt Ideal .f32) (grid0.coords t) (tile m c t S' d3 d4) (win0_6.cut (α := Elt Ideal .f32) (grid0.coords t) (outBlk m c t))) : sProp 𝕄)
    rw [out_eq m c t (tile m c t S' d3 d4) (fun y => point m c t S' hg d3 d4 y)]
    try iexact H6
  · have ht : t.val ≠ 0 := fun h => hi ((first_iff t).mpr h)
    obtain ⟨n, hn⟩ := Nat.exists_eq_succ_of_ne_zero ht
    rw [hn]
    unfold PhiN
    iintro ⟨⟨⟨%S, %hg, HS⟩, Hr⟩, Ho, ⟨%d0, H0⟩, ⟨%d1, H1⟩, ⟨%d2, H2⟩, ⟨%d3, H3⟩, ⟨%d4, H4⟩, ⟨%d5, H5⟩, ⟨%d6, H6⟩⟩
    rw [before0_0_of m (dats m 0 c) rfl (fun _ => rfl) t d0, before0_1_of m (dats m 0 c) rfl (fun _ => rfl) t d1,
      before0_2_of m (dats m 0 c) rfl (fun _ => rfl) t d2, before_3 m c t d3, before_4 m c t d4,
      before0_5_of m (dats m 0 c) rfl (fun _ => rfl) t d5]
    iapply (body_rest (F := Ideal) c Set.univ (grid0.coords t) hi
      (stage0_0 (cfg0.slots t 0)) _ (stage0_1 (cfg0.slots t 1)) _ (stage0_2 (cfg0.slots t 2)) _ (stage0_3 (cfg0.slots t 3)) _
      (stage0_4 (cfg0.slots t 4)) _ (stage0_5 (cfg0.slots t 5)) _ (stage0_6 (cfg0.slots t 6)) _ (Memref.whole cc0_scratch0) (Memref.isWhole_whole _)
      (iblk m c 0 t) (iblk m c 1 t) (iblk m c 2 t) (win0_3.fill (grid0.coords t) d3 (iblk m c 3 t))
      (win0_4.fill (grid0.coords t) d4 (iblk m c 4 t)) (iblk m c 5 t) ((dats m 0 c).before (6 : Fin 7) t d6) S _)
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iintro ⟨H0, H1, H2, H3, H4, H5, H6, HS⟩
    isplitl [HS Hr]
    · isplitl [HS]
      · iexists S; isplitr; · ipureintro; exact hg
        iexact HS
      · iexact Hr
    isplitl [Ho]; · iexact Ho
    isplitl [H0]; · iexact H0
    isplitl [H1]; · iexact H1
    isplitl [H2]; · iexact H2
    isplitl [H3]
    · iexists d3
      change _ ⊢ owns (c : Thread nD τ) (stage0_3 (cfg0.slots t 3)) fullShare (win0_3.fill (grid0.coords t) d3 (win0_3.cut (grid0.coords t) (Frame.addBlk m c t)))
      rw [h3]; try iexact H3
    isplitl [H4]
    · iexists d4
      change _ ⊢ owns (c : Thread nD τ) (stage0_4 (cfg0.slots t 4)) fullShare (win0_4.fill (grid0.coords t) d4 (win0_4.cut (grid0.coords t) (Frame.resBlk m c t)))
      rw [h4]; try iexact H4
    isplitl [H5]; · iexact H5
    iexists (tile m c t S d3 d4)
    change _ ⊢ (owns (Val := Elt Ideal) (c : Thread nD τ) (stage0_6 (cfg0.slots t 6)) fullShare (win0_6.fill (α := Elt Ideal .f32) (grid0.coords t) (tile m c t S d3 d4) (win0_6.cut (α := Elt Ideal .f32) (grid0.coords t) (outBlk m c t))) : sProp 𝕄)
    rw [out_eq m c t (tile m c t S d3 d4) (fun y => point m c t S hg d3 d4 y)]
    try iexact H6

/-- The result: the scores with the batch and row axes split. -/
def outv (c : Dev nD) : Buf (Elt Ideal) ((c : Thread nD τ).loc main_v5) :=
  (shapeCast S2x2048x40000 (scores m c) shapeCasts_S4096x40000_S2x2048x40000 : S2x2048x40000.Idx → EReal)

/-- The region leaves the scores in its result array. -/
theorem arr_out (c : Dev nD) : (dats m 0 c).arrAt 6 cfg0.N = scores m c :=
  (dats m 0 c).arrAt_eq_of_covers 6 _ (by decide +kernel) fun t hf y => by
    show outBlk m c t (win0_6.xinj (grid0.coords t) y) = _
    exact win0_6.fill_xinj _ _ _ y

/-- The host's reshape after the region leaves them in the result. -/
theorem tail_out (c : Dev nD) : Pipeline.afterTail₀ cfgs (dats m) 0 (V0 m) [hostOps1] c main_v5 = outv m c := by
  unfold Pipeline.afterTail₀
  have h := Pipeline.withArrays_arr spec0 launch0.win.arr_inj c (V0 m c) (fun w => (dats m 0 c).arrAt w cfg0.N) 6
  rw [arr_out m c] at h
  simp only [hostOps1, List.flatten_cons, List.flatten_nil, List.append_nil]
  after_results_simp
  exact congrArg (fun X : S4096x40000.Idx → EReal => shapeCast S2x2048x40000 X shapeCasts_S4096x40000_S2x2048x40000) h

/-- The run ends with the proof data's arrays and the host's reshape of them. -/
theorem run_frame : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) 0 launch0 defs₀ Variants.none m ρ main (body_obligation m)
    (fun c => (dats m 0 c).share_full fun _ => rfl) (fun _ _ => rfl) (V0 m) [hostOps1] sfx_sub sfx_fresh sfx_keeps
    (hmain m Variants.none) (fun _ _ => rfl) (fun c => by rw [show (dats m 0 c).Φ 0 = Pipeline.ΦA spec0 c from rfl]) (fun c => by
      rw [show (dats m 0 c).Φ (Fin.last cfg0.N) = PhiN m c (127 + 1) from rfl]
      unfold PhiN
      show _ ⊢ Pipeline.ΦA spec0 c
      unfold Pipeline.ΦA
      rw [scopedRest0_eq]
      iintro ⟨⟨%S, -, HS⟩, Hr⟩
      isplitl [HS]
      · iapply (Frame.scratch_out c S); iexact HS
      · iexact Hr)

/-- THE VALUE RUN: the result ends at the scores and the arguments end as launched. -/
theorem run : θ_run defs (onTc (τ := τ) (main (F := Ideal))) ⟨m, fun _ => 0, ρ⟩ (fun r => ∀ c : Dev nD,
      r.2.mem ((c.tc : Thread nD τ).loc main_v5) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v5 (Pipeline.mem_restRefs_of main_v5 (by decide) (by decide))).trans (tail_out m c),
      (((h c).2 main_arg0 (Pipeline.mem_restRefs_of main_arg0 (by decide) (by decide))).trans (W_main_arg0 m (dats m) c)),
      ((h c).1 1).trans (((dats m 0 c).arrAt_in 1 rfl _).trans (V_main_arg1 m c)),
      ((h c).1 2).trans (((dats m 0 c).arrAt_in 2 rfl _).trans (V_main_arg2 m c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩) (run_frame m ρ)

/-- One score from the arguments. -/
def spec (x : S2x2048x128.Idx → EReal) (sg : IVec S128x5000 8) (ex : IVec S3x128x5000 8) (fa fr : S40000.Idx → EReal)
    (ga : S2x2048.Idx → EReal) (b : Fin 2) (r : Fin 2048) (n : Fin 40000) : EReal :=
  fa (ix1 n) + ga (ix2 b r) + Ideal.ofBits .f32 1056964608#32 * fr (ix1 n) * ∑ k : Fin 128, x (ix3 b r k) * wmat sg ex k n.val

/-- What the host's reshapes hand the region. -/
theorem V_v0 (c : Dev nD) : V m c main_v0 = shapeCast S4096x128 (m ((c : Thread nD τ).loc main_arg0)) shapeCasts_S2x2048x128_S4096x128 := by
  simp only [V, V0, hostOps0, List.flatten_cons, List.flatten_nil, List.append_nil]
  after_results_simp <;> rfl
/-- The same of `f_add`. -/
theorem V_v1 (c : Dev nD) : V m c main_v1 = shapeCast S1x40000 (m ((c : Thread nD τ).loc main_arg3)) shapeCasts_S40000_S1x40000 := by
  simp only [V, V0, hostOps0, List.flatten_cons, List.flatten_nil, List.append_nil]
  after_results_simp <;> rfl
/-- The same of `f_rescale`. -/
theorem V_v2 (c : Dev nD) : V m c main_v2 = shapeCast S1x40000 (m ((c : Thread nD τ).loc main_arg4)) shapeCasts_S40000_S1x40000 := by
  simp only [V, V0, hostOps0, List.flatten_cons, List.flatten_nil, List.append_nil]
  after_results_simp <;> rfl
/-- The same of `g_add`. -/
theorem V_v3 (c : Dev nD) : V m c main_v3 = shapeCast S4096x1 (m ((c : Thread nD τ).loc main_arg5)) shapeCasts_S2x2048_S4096x1 := by
  simp only [V, V0, hostOps0, List.flatten_cons, List.flatten_nil, List.append_nil]
  after_results_simp <;> rfl

/-- A flattened row of `x`, of the vectors' terms and of the queries' term, read back at its batch and row. -/
theorem cast_x (x : S2x2048x128.Idx → EReal) (h : S2x2048x128.ShapeCasts S4096x128) (b : Fin 2) (r : Fin 2048) (q : Fin 4096)
    (e : q.val = b.val * 2048 + r.val) (k : Fin 128) : shapeCast S4096x128 x h (ix2 q k) = x (ix3 b r k) :=
  shapeCast_apply x h _ _ (by
    rw [Shape.rowMajor_val_three, Shape.rowMajor_val_two]
    show (b.val * 2048 + r.val) * 128 + k.val = q.val * 128 + k.val
    rw [e])
/-- A vector as one row. -/
theorem cast_v (x : S40000.Idx → EReal) (h : S40000.ShapeCasts S1x40000) (n : Fin 40000) : shapeCast S1x40000 x h (ix2 0 n) = x (ix1 n) := by
  pointwise
/-- `g_add` as one column. -/
theorem cast_g (x : S2x2048.Idx → EReal) (h : S2x2048.ShapeCasts S4096x1) (b : Fin 2) (r : Fin 2048) (q : Fin 4096)
    (e : q.val = b.val * 2048 + r.val) : shapeCast S4096x1 x h (ix2 q 0) = x (ix2 b r) :=
  shapeCast_apply x h _ _ (by
    rw [Shape.rowMajor_val_two, Shape.rowMajor_val_two]
    show b.val * 2048 + r.val = q.val * 1 + 0
    omega)

/-- The result at an index, from the arguments. -/
theorem outv_apply (c : Dev nD) (b : Fin 2) (r : Fin 2048) (n : Fin 40000) :
    (outv m c : S2x2048x40000.Idx → EReal) (ix3 b r n)
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b r n := by
  have hq : b.val * 2048 + r.val < 4096 := by omega
  have e : (outv m c : S2x2048x40000.Idx → EReal) (ix3 b r n) = scores m c (ix2 (⟨b.val * 2048 + r.val, hq⟩ : Fin 4096) n) :=
    shapeCast_apply _ _ _ _ (by rw [Shape.rowMajor_val_three, Shape.rowMajor_val_two]; rfl)
  rw [e]
  show scoreAt (V m c main_v0) (V m c main_arg1) (V m c main_arg2) (V m c main_v1) (V m c main_v2) (V m c main_v3) ⟨b.val * 2048 + r.val, hq⟩ n = _
  rw [V_v0, V_v1, V_v2, V_v3, V_main_arg1, V_main_arg2]
  unfold scoreAt spec
  rw [cast_v, cast_v, cast_g _ _ b r _ rfl, Finset.sum_congr rfl fun k _ => by rw [cast_x _ _ b r _ rfl k]]

end Cert.KernelIdeal.Value

end
-- ==== Proof.ReferenceMath.lean ====
module

public import proofs.«01_k».proof.Proof.Gen.ReferenceIdeal.Run
public import proofs.«01_k».proof.Proof.Bytes
public import proofs.«01_k».proof.Proof.KernelIdealValue
public import Idealize.ShloMosaic.Lib.Pointwise

@[expose] public section

set_option maxRecDepth 16384

noncomputable section

namespace Cert.ReferenceIdeal.Math

open Cert.ReferenceIdeal Cert.ReferenceIdeal.Gen Cert.Bytes
open Idealize.ShloMosaic Idealize.ShloMosaic.TcCoe

/-- The reference's signed integer weights, by dimension, bit plane and byte column. -/
def word (A1 : IVec S128x5000 8) (A2 : IVec S3x128x5000 8) : IVec S128x8x5000 32 :=
  (subi (muli (broadcastInDim S128x8x5000 ![] bcast_S_S128x8x5000 (constantI S_ 32 2#32)) (addi (Host.shli (andi (Host.shrsi (broadcastInDim S128x8x5000 ![0, 1, 2] bcast_S128x1x5000_S128x8x5000_0_1_2 (broadcastInDim S128x1x5000 ![0, 2] bcast_S128x5000_S128x1x5000_0_2 (extui 32 A1 natLt_8_32))) (broadcastInDim S128x8x5000 ![0, 1, 2] bcast_S1x8x1_S128x8x5000_0_1_2 (broadcastInDim S1x8x1 ![1] bcast_S8_S1x8x1_1 (iotaInDim S8 32 0)))) (broadcastInDim S128x8x5000 ![] bcast_S_S128x8x5000 (constantI S_ 32 1#32))) (broadcastInDim S128x8x5000 ![] bcast_S_S128x8x5000 (constantI S_ 32 3#32))) (Host.reduce IntOp.addi (Host.shli (andi (Host.shrsi (broadcastInDim S3x128x8x5000 ![0, 1, 2, 3] bcast_S3x128x1x5000_S3x128x8x5000_0_1_2_3 (broadcastInDim S3x128x1x5000 ![0, 1, 3] bcast_S3x128x5000_S3x128x1x5000_0_1_3 (extui 32 A2 natLt_8_32))) (broadcastInDim S3x128x8x5000 ![0, 1, 2, 3] bcast_S1x1x8x1_S3x128x8x5000_0_1_2_3 (broadcastInDim S1x1x8x1 ![2] bcast_S8_S1x1x8x1_2 (iotaInDim S8 32 0)))) (broadcastInDim S3x128x8x5000 ![] bcast_S_S3x128x8x5000 (constantI S_ 32 1#32))) (broadcastInDim S3x128x8x5000 ![0, 1, 2, 3] bcast_S3x1x1x1_S3x128x8x5000_0_1_2_3 (broadcastInDim S3x1x1x1 ![0] bcast_S3_S3x1x1x1_0 (iotaInDim S3 32 0)))) (constantI S_ 32 0#32) reducesTo_S3x128x8x5000_S128x8x5000_d0 h_S_))) (broadcastInDim S128x8x5000 ![] bcast_S_S128x8x5000 (constantI S_ 32 15#32)))

/-- Bit `k` of a byte: the byte widened, shifted right by `k` and masked to its lowest bit. -/
theorem bit_word (x : BitVec 8) (k : Fin 8) :
    IntOp.andi (IntOp.shrsi ArithUnit.host (BitVec.setWidth 32 x) (BitVec.ofNat 32 ↑k)) 1#32
      = bif x.getLsbD k.val then 1#32 else 0#32 := by
  revert x k
  decide +kernel

/-- The integer weight of four bits, computed on 32-bit words, is `weight`. -/
theorem weight_word (s e0 e1 e2 : Bool) :
    (IntOp.subi (IntOp.muli (2#32) (IntOp.addi (IntOp.shli ArithUnit.host (bif s then 1#32 else 0#32) 3#32)
      (IntOp.addi (IntOp.shli ArithUnit.host (bif e0 then 1#32 else 0#32) 0#32)
        (IntOp.addi (IntOp.shli ArithUnit.host (bif e1 then 1#32 else 0#32) 1#32)
          (IntOp.addi (IntOp.shli ArithUnit.host (bif e2 then 1#32 else 0#32) 2#32) 0#32))))) 15#32).toInt
      = weight s e0 e1 e2 := by
  revert s e0 e1 e2
  decide

/-- A weight of the reference is `weight` of the sign bit and the three extra bits. -/
theorem word_apply (A1 : IVec S128x5000 8) (A2 : IVec S3x128x5000 8) (p : Fin 128) (k : Fin 8) (l : Fin 5000) :
    (word A1 A2 (ix3 p k l)).toInt = Cert.KernelIdeal.Planes.wt A1 A2 k.val p l := by
  have h : word A1 A2 (ix3 p k l) = IntOp.subi (IntOp.muli (2#32) (IntOp.addi
      (IntOp.shli ArithUnit.host (bif (A1 (ix2 p l)).getLsbD k.val then 1#32 else 0#32) 3#32)
      (IntOp.addi (IntOp.shli ArithUnit.host (bif (A2 (ix3 0 p l)).getLsbD k.val then 1#32 else 0#32) 0#32)
        (IntOp.addi (IntOp.shli ArithUnit.host (bif (A2 (ix3 1 p l)).getLsbD k.val then 1#32 else 0#32) 1#32)
          (IntOp.addi (IntOp.shli ArithUnit.host (bif (A2 (ix3 2 p l)).getLsbD k.val then 1#32 else 0#32) 2#32) 0#32))))) 15#32 := by
    unfold word
    pointwise
    simp only [bit_word]
    rfl
  rw [h, weight_word]
  rfl

/-- The reference's weights as the matrix it multiplies by. -/
theorem wmat_apply (A1 : IVec S128x5000 8) (A2 : IVec S3x128x5000 8) (p : Fin 128) (n : Fin 40000) :
    (shapeCast S128x40000 (sitofp .bf16 (word A1 A2) : FVec Ideal S128x8x5000 .bf16) shapeCasts_S128x8x5000_S128x40000 : S128x40000.Idx → EReal) (ix2 p n)
      = Cert.KernelIdeal.Planes.wmat A1 A2 p n.val := by
  rw [shapeCast_apply (sitofp .bf16 (word A1 A2) : FVec Ideal S128x8x5000 .bf16) _ (ix2 p n) (ix3 p ⟨n.val / 5000, by omega⟩ ⟨n.val % 5000, by omega⟩)
    (by rw [Shape.rowMajor_val_three, Shape.rowMajor_val_two]; simp; omega)]
  show (((word A1 A2 (ix3 p ⟨n.val / 5000, by omega⟩ ⟨n.val % 5000, by omega⟩)).toInt : ℝ) : EReal) = _
  rw [word_apply]
  rfl

/-- The reference's result as a term of its arguments. -/
def refv (A0 : FVec Ideal S2x2048x128 .bf16) (A1 : IVec S128x5000 8) (A2 : IVec S3x128x5000 8) (A3 A4 : FVec Ideal S40000 .f32)
    (A5 : FVec Ideal S2x2048 .f32) : FVec Ideal S2x2048x40000 .f32 :=
  addf (addf (broadcastInDim S2x2048x40000 ![0, 1, 2] bcast_S1x1x40000_S2x2048x40000_0_1_2 (broadcastInDim S1x1x40000 ![2] bcast_S40000_S1x1x40000_2 A3)) (broadcastInDim S2x2048x40000 ![0, 1, 2] bcast_S2x2048x1_S2x2048x40000_0_1_2 (broadcastInDim S2x2048x1 ![0, 1] bcast_S2x2048_S2x2048x1_0_1 A5))) (mulf (broadcastInDim S2x2048x40000 ![0, 1, 2] bcast_S1x1x40000_S2x2048x40000_0_1_2 (broadcastInDim S1x1x40000 ![2] bcast_S40000_S1x1x40000_2 (mulf (broadcastInDim S40000 ![] bcast_S_S40000 (constant S_ .f32 0x3F000000#32)) A4))) (Host.dotGeneral dot_S2x2048x128_S128x40000_S2x2048x40000_2_0_01_1_n_n none A0 (shapeCast _ (sitofp .bf16 (word A1 A2)) shapeCasts_S128x8x5000_S128x40000)))

/-- One score of the reference from the arguments. -/
theorem refv_apply (A0 : FVec Ideal S2x2048x128 .bf16) (A1 : IVec S128x5000 8) (A2 : IVec S3x128x5000 8)
    (A3 A4 : FVec Ideal S40000 .f32) (A5 : FVec Ideal S2x2048 .f32) (b : Fin 2) (r : Fin 2048) (n : Fin 40000) :
    refv A0 A1 A2 A3 A4 A5 (ix3 b r n) = Cert.KernelIdeal.Value.spec A0 A1 A2 A3 A4 A5 b r n := by
  unfold refv Cert.KernelIdeal.Value.spec
  simp only [← wmat_apply]
  generalize (shapeCast S128x40000 (sitofp .bf16 (word A1 A2) : FVec Ideal S128x8x5000 .bf16) shapeCasts_S128x8x5000_S128x40000 : S128x40000.Idx → EReal) = W
  pointwise

/-- THE RESULTS ARE EQUAL: the reference's result, from the kernel's arguments, is what the kernel leaves. -/
theorem refv_eq (m : (ℓ : Loc Cert.KernelIdeal.nD Cert.KernelIdeal.τ Cert.KernelIdeal.sig) → Buf (Elt Ideal) ℓ) (c : Dev Cert.KernelIdeal.nD) :
    refv (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = (Cert.KernelIdeal.Value.outv m c : S2x2048x40000.Idx → EReal) := by
  funext i
  obtain ⟨b, r, n, rfl⟩ : ∃ (b : Fin 2) (r : Fin 2048) (n : Fin 40000), i = ix3 b r n :=
    ⟨i 0, i 1, i 2, by funext a; match a with | ⟨0, _⟩ => rfl | ⟨1, _⟩ => rfl | ⟨2, _⟩ => rfl⟩
  exact (refv_apply _ _ _ _ _ _ b r n).trans (Cert.KernelIdeal.Value.outv_apply m c b r n).symm

end Cert.ReferenceIdeal.Math

end
-- ==== Proof.lean ====
module

public import proofs.«01_k».proof.Defs
public import proofs.«01_k».proof.Proof.KernelFrame
public import proofs.«01_k».proof.Proof.KernelIdealFrame
public import proofs.«01_k».proof.Proof.Gen.ReferenceIdeal.Run
public import proofs.«01_k».proof.Proof.KernelIdealValue
public import proofs.«01_k».proof.Proof.ReferenceMath
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Over exact arithmetic the kernel and the reference end with the same scores. -/
theorem algebraic : letI := Cert.KernelIdeal.Gen.facts; letI := Cert.ReferenceIdeal.Gen.facts; Cert.algebraic_KernelIdeal_ReferenceIdeal := by
  intro m g m' g' _ hargs
  refine ⟨fun c => Cert.KernelIdeal.Value.outv m c, Cert.KernelIdeal.Value.run m g, ?_⟩
  refine (θ_run Cert.ReferenceIdeal.defs _ _).mono (fun r h c => ⟨(h c).1.trans ?_, (h c).2⟩) (Cert.ReferenceIdeal.Value.run m' g')
  obtain ⟨h0, h1, h2, h3, h4, h5⟩ := hargs c
  rw [h0, h1, h2, h3, h4, h5]
  exact Cert.ReferenceIdeal.Math.refv_eq m c

/-- The certificate's claims. -/
theorem claim : Cert.Claim := ⟨Cert.Kernel.Gen.facts, Cert.KernelIdeal.Gen.facts, Cert.ReferenceIdeal.Gen.facts,
  fun m g _ => Cert.Kernel.Frame.quiescent m g,
  fun m g _ => Cert.KernelIdeal.Frame.quiescent m g,
  fun m g _ => (θ_run Cert.ReferenceIdeal.defs _ _).mono
    (fun r h => ⟨fun c => (h c).2, sem_eq_zero_of_no_sems rfl r.2⟩) (Cert.ReferenceIdeal.Value.run m g),
  trivial, algebraic⟩

end Cert.Proof

end
